-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 1024]⟩ ⟨2, ![4096, 8192]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x1024 : Shape := ⟨2, ![4096, 1024]⟩
abbrev S8x8x64x4096 : Shape := ⟨4, ![8, 8, 64, 4096]⟩
abbrev S4x64x1024 : Shape := ⟨3, ![4, 64, 1024]⟩
abbrev S8x3 : Shape := ⟨2, ![8, 3]⟩
abbrev S_ : Shape := ⟨0, ![]⟩
abbrev S4 : Shape := ⟨1, ![4]⟩
abbrev S64x4096 : Shape := ⟨2, ![64, 4096]⟩
abbrev S1x1x64x4096 : Shape := ⟨4, ![1, 1, 64, 4096]⟩
abbrev S1x1 : Shape := ⟨2, ![1, 1]⟩
abbrev S1x64x4096 : Shape := ⟨3, ![1, 64, 4096]⟩
abbrev S64x1024 : Shape := ⟨2, ![64, 1024]⟩
abbrev S1x64x1024 : Shape := ⟨3, ![1, 64, 1024]⟩
abbrev S1 : Shape := ⟨1, ![1]⟩
abbrev S1x2x64x4096 : Shape := ⟨4, ![1, 2, 64, 4096]⟩
abbrev S2x64x4096 : Shape := ⟨3, ![2, 64, 4096]⟩
abbrev S1x4x64x4096 : Shape := ⟨4, ![1, 4, 64, 4096]⟩
abbrev S4x64x4096 : Shape := ⟨3, ![4, 64, 4096]⟩

abbrev nBuf : Space → Nat
  | .hbm => 3
  | .vmem => 5
  | .smem => 0
  | _ => 0

abbrev bufTy : (tb : Table) → Fin (tcTables nBuf tb) → BufTy
  | .hbm, ⟨0, _⟩ => ⟨S512x4096, .bf16⟩
  | .hbm, ⟨1, _⟩ => ⟨S4096x1024, .f32⟩
  | .hbm, ⟨2, _⟩ => ⟨S4096x1024, .f32⟩
  | .local _ .vmem, ⟨0, _⟩ => ⟨S512x4096, .bf16⟩
  | .local _ .vmem, ⟨1, _⟩ => ⟨S8x8x64x4096, .bf16⟩
  | .local _ .vmem, ⟨2, _⟩ => ⟨S4096x1024, .f32⟩
  | .local _ .vmem, ⟨3, _⟩ => ⟨S4096x1024, .bf16⟩
  | .local _ .vmem, ⟨4, _⟩ => ⟨S4x64x1024, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v44 : BitVec 32 := Scalar.xori v2 c1_i32_33
  let c1_i32_35 : BitVec 32 := 1#32
  let v45 : BitVec 32 := Scalar.muli v44 c1_i32_35
  let v46 : BitVec 32 := Scalar.addi c0_i32 v45
  v46.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v47 : BitVec 32 := Scalar.xori v2 c3_i32
  let c1_i32_37 : BitVec 32 := 1#32
  let v48 : BitVec 32 := Scalar.muli v47 c1_i32_37
  let v49 : BitVec 32 := Scalar.addi c0_i32_38 v48
  v49.toNat
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v50 : BitVec 32 := Scalar.xori v2 c4_i32
  let c1_i32_40 : BitVec 32 := 1#32
  let v51 : BitVec 32 := Scalar.muli v50 c1_i32_40
  let v52 : BitVec 32 := Scalar.addi c0_i32_41 v51
  v52.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_43 : BitVec 32 := 4#32
  let v53 : BitVec 32 := Scalar.xori v2 c4_i32_43
  let c1_i32_50 : BitVec 32 := 1#32
  let v54 : BitVec 32 := Scalar.muli v53 c1_i32_50
  let v55 : BitVec 32 := Scalar.addi c0_i32_51 v54
  v55.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_58 : BitVec 32 := 3#32
  let v64 : BitVec 32 := Scalar.xori v2 c3_i32_58
  let c1_i32_65 : BitVec 32 := 1#32
  let v65 : BitVec 32 := Scalar.muli v64 c1_i32_65
  let v66 : BitVec 32 := Scalar.addi c0_i32_66 v65
  v66.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v75 : BitVec 32 := Scalar.xori v2 c1_i32_73
  let c1_i32_79 : BitVec 32 := 1#32
  let v76 : BitVec 32 := Scalar.muli v75 c1_i32_79
  let v77 : BitVec 32 := Scalar.addi c0_i32_80 v76
  v77.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v86 : BitVec 32 := Scalar.xori v2 c1_i32_87
  let c1_i32_94 : BitVec 32 := 1#32
  let v87 : BitVec 32 := Scalar.muli v86 c1_i32_94
  let v88 : BitVec 32 := Scalar.addi c0_i32_95 v87
  v88.toNat
def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v97 : BitVec 32 := Scalar.xori v2 c3_i32_102
  let c1_i32_109 : BitVec 32 := 1#32
  let v98 : BitVec 32 := Scalar.muli v97 c1_i32_109
  let v99 : BitVec 32 := Scalar.addi c0_i32_110 v98
  v99.toNat
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_117 : BitVec 32 := 4#32
  let v108 : BitVec 32 := Scalar.xori v2 c4_i32_117
  let c1_i32_123 : BitVec 32 := 1#32
  let v109 : BitVec 32 := Scalar.muli v108 c1_i32_123
  let v110 : BitVec 32 := Scalar.addi c0_i32_124 v109
  v110.toNat
def k0_dev10 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_131 : BitVec 32 := 4#32
  let v119 : BitVec 32 := Scalar.xori v2 c4_i32_131
  let c1_i32_137 : BitVec 32 := 1#32
  let v120 : BitVec 32 := Scalar.muli v119 c1_i32_137
  let v121 : BitVec 32 := Scalar.addi c0_i32_138 v120
  v121.toNat
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_145 : BitVec 32 := 1#32
  let v130 : BitVec 32 := Scalar.xori v2 c1_i32_145
  let c1_i32_151 : BitVec 32 := 1#32
  let v131 : BitVec 32 := Scalar.muli v130 c1_i32_151
  let v132 : BitVec 32 := Scalar.addi c0_i32_152 v131
  v132.toNat
def k0_off1 (d0 : Dev nD) (c0_i32_172 : BitVec 32) (c0_i32_173 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v153 : BitVec 32 := Scalar.xori v2 c0_i32_172
  let c512_i32 : BitVec 32 := 512#32
  let v154 : BitVec 32 := Scalar.muli v153 c512_i32
  let v155 : BitVec 32 := Scalar.addi v154 c0_i32_173
  let c0_i32_176 : BitVec 32 := 0#32
  ![v155.toNat, 0]
def k0_dev12 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_333 : BitVec 32 := 3#32
  let v295 : BitVec 32 := Scalar.xori v2 c3_i32_333
  let c1_i32_340 : BitVec 32 := 1#32
  let v296 : BitVec 32 := Scalar.muli v295 c1_i32_340
  let v297 : BitVec 32 := Scalar.addi c0_i32_341 v296
  v297.toNat
def k0_dev13 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_386 : BitVec 32 := 4#32
  let v335 : BitVec 32 := Scalar.xori v2 c4_i32_386
  let c1_i32_393 : BitVec 32 := 1#32
  let v336 : BitVec 32 := Scalar.muli v335 c1_i32_393
  let v337 : BitVec 32 := Scalar.addi c0_i32_394 v336
  v337.toNat
def k0_dev14 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_439 : BitVec 32 := 4#32
  let v375 : BitVec 32 := Scalar.xori v2 c4_i32_439
  let c1_i32_446 : BitVec 32 := 1#32
  let v376 : BitVec 32 := Scalar.muli v375 c1_i32_446
  let v377 : BitVec 32 := Scalar.addi c0_i32_447 v376
  v377.toNat
def k0_dev15 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_492 : BitVec 32 := 3#32
  let v415 : BitVec 32 := Scalar.xori v2 c3_i32_492
  let c1_i32_499 : BitVec 32 := 1#32
  let v416 : BitVec 32 := Scalar.muli v415 c1_i32_499
  let v417 : BitVec 32 := Scalar.addi c0_i32_500 v416
  v417.toNat
def k0_dev16 (d0 : Dev nD) : Nat :=
  let c0_i32_553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_545 : BitVec 32 := 1#32
  let v455 : BitVec 32 := Scalar.xori v2 c1_i32_545
  let c1_i32_552 : BitVec 32 := 1#32
  let v456 : BitVec 32 := Scalar.muli v455 c1_i32_552
  let v457 : BitVec 32 := Scalar.addi c0_i32_553 v456
  v457.toNat
def k0_dev17 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_598 : BitVec 32 := 1#32
  let v495 : BitVec 32 := Scalar.xori v2 c1_i32_598
  let c1_i32_605 : BitVec 32 := 1#32
  let v496 : BitVec 32 := Scalar.muli v495 c1_i32_605
  let v497 : BitVec 32 := Scalar.addi c0_i32_606 v496
  v497.toNat
def k0_dev18 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_651 : BitVec 32 := 3#32
  let v535 : BitVec 32 := Scalar.xori v2 c3_i32_651
  let c1_i32_658 : BitVec 32 := 1#32
  let v536 : BitVec 32 := Scalar.muli v535 c1_i32_658
  let v537 : BitVec 32 := Scalar.addi c0_i32_659 v536
  v537.toNat
def k0_dev19 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_704 : BitVec 32 := 3#32
  let v575 : BitVec 32 := Scalar.xori v2 c3_i32_704
  let c1_i32_711 : BitVec 32 := 1#32
  let v576 : BitVec 32 := Scalar.muli v575 c1_i32_711
  let v577 : BitVec 32 := Scalar.addi c0_i32_712 v576
  v577.toNat
def k0_dev20 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_757 : BitVec 32 := 1#32
  let v615 : BitVec 32 := Scalar.xori v2 c1_i32_757
  let c1_i32_764 : BitVec 32 := 1#32
  let v616 : BitVec 32 := Scalar.muli v615 c1_i32_764
  let v617 : BitVec 32 := Scalar.addi c0_i32_765 v616
  v617.toNat
def k0_dev21 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_833 : BitVec 32 := 4#32
  let v675 : BitVec 32 := Scalar.xori v2 c4_i32_833
  let c1_i32_840 : BitVec 32 := 1#32
  let v676 : BitVec 32 := Scalar.muli v675 c1_i32_840
  let v677 : BitVec 32 := Scalar.addi c0_i32_841 v676
  v677.toNat
def k0_dev22 (d0 : Dev nD) : Nat :=
  let c0_i32_917 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_909 : BitVec 32 := 4#32
  let v735 : BitVec 32 := Scalar.xori v2 c4_i32_909
  let c1_i32_916 : BitVec 32 := 1#32
  let v736 : BitVec 32 := Scalar.muli v735 c1_i32_916
  let v737 : BitVec 32 := Scalar.addi c0_i32_917 v736
  v737.toNat
def k0_dev23 (d0 : Dev nD) : Nat :=
  let c0_i32_993 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_985 : BitVec 32 := 1#32
  let v795 : BitVec 32 := Scalar.xori v2 c1_i32_985
  let c1_i32_992 : BitVec 32 := 1#32
  let v796 : BitVec 32 := Scalar.muli v795 c1_i32_992
  let v797 : BitVec 32 := Scalar.addi c0_i32_993 v796
  v797.toNat
def k0_dev24 (d0 : Dev nD) : Nat :=
  let c0_i32_1069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1061 : BitVec 32 := 3#32
  let v855 : BitVec 32 := Scalar.xori v2 c3_i32_1061
  let c1_i32_1068 : BitVec 32 := 1#32
  let v856 : BitVec 32 := Scalar.muli v855 c1_i32_1068
  let v857 : BitVec 32 := Scalar.addi c0_i32_1069 v856
  v857.toNat
def k0_dev25 (d0 : Dev nD) : Nat :=
  let c0_i32_1145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1137 : BitVec 32 := 3#32
  let v915 : BitVec 32 := Scalar.xori v2 c3_i32_1137
  let c1_i32_1144 : BitVec 32 := 1#32
  let v916 : BitVec 32 := Scalar.muli v915 c1_i32_1144
  let v917 : BitVec 32 := Scalar.addi c0_i32_1145 v916
  v917.toNat
def k0_dev26 (d0 : Dev nD) : Nat :=
  let c0_i32_1221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1213 : BitVec 32 := 1#32
  let v975 : BitVec 32 := Scalar.xori v2 c1_i32_1213
  let c1_i32_1220 : BitVec 32 := 1#32
  let v976 : BitVec 32 := Scalar.muli v975 c1_i32_1220
  let v977 : BitVec 32 := Scalar.addi c0_i32_1221 v976
  v977.toNat
def k0_dev27 (d0 : Dev nD) : Nat :=
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1289 : BitVec 32 := 4#32
  let v1035 : BitVec 32 := Scalar.xori v2 c4_i32_1289
  let c1_i32_1296 : BitVec 32 := 1#32
  let v1036 : BitVec 32 := Scalar.muli v1035 c1_i32_1296
  let v1037 : BitVec 32 := Scalar.addi c0_i32_1297 v1036
  v1037.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x8192, .bf16⟩
  | .hbm, ⟨3, _⟩ => ⟨S4096x8192, .f32⟩
  | .hbm, ⟨4, _⟩ => ⟨S4096x8192, .bf16⟩
  | .hbm, ⟨5, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
/-
# The kernel's body as a list of events

The body of the kernel is one long straight line: copies started, semaphores signalled and awaited, blocks
multiplied and copied out. Here each KIND of event is one small program with the row part `p`, the exchange phase
`ph`, the slot and the stage as parameters, and the body is shown to be a list of these events run in order.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL.Sem

variable {F : FTy → Type} [FloatOps F]

/-! ## The exchange's tables -/

/-- The three axes of the exchange: XOR by 1, by 3, by 4. -/
abbrev axisMask : Fin 3 → ℕ := ![1, 3, 4]

/-- Which axis row part `p` exchanges along in phase `ph`. -/
abbrev axisOf (p : Fin 8) (ph : Fin 3) : Fin 3 :=
  (![![2, 1, 0], ![1, 2, 0], ![0, 2, 1], ![0, 1, 2], ![1, 0, 2], ![2, 0, 1], ![2, 1, 0], ![0, 1, 2]] : Fin 8 → Fin 3 → Fin 3) p ph

/-- The XOR mask of that axis. -/
abbrev maskOf (p : Fin 8) (ph : Fin 3) : ℕ := axisMask (axisOf p ph)

/-- Slot `j` of row part `p` holds the rows of the device at distance (XOR) `slotMask p j`. -/
abbrev slotMask (p j : Fin 8) : Fin 8 :=
  (![![0, 4, 3, 7, 1, 5, 2, 6], ![0, 3, 4, 7, 1, 2, 5, 6], ![0, 1, 4, 5, 3, 2, 7, 6], ![0, 1, 3, 2, 4, 5, 7, 6],
    ![0, 3, 1, 2, 4, 7, 5, 6], ![0, 4, 1, 5, 3, 7, 2, 6], ![0, 4, 3, 7, 1, 5, 2, 6], ![0, 1, 3, 2, 4, 5, 7, 6]] : Fin 8 → Fin 8 → Fin 8) p j

/-- How many slots phase `ph` sends. -/
abbrev cnt (ph : Fin 3) : ℕ := 2 ^ ph.val

/-- The device at XOR mask `m` from `d`, as the kernel's words compute it. -/
def devWord (d : Dev nD) (m : ℕ) : ℕ :=
  (Scalar.addi 0#32 (Scalar.muli (Scalar.xori (Scalar.remsi (Scalar.divsi (Dev.word d) 1#32) 8#32) (BitVec.ofNat 32 m)) 1#32)).toNat

theorem devWord_lt (d : Dev nD) (a : Fin 3) : devWord d (axisMask a) < nD := by revert d a; decide

/-- The device across axis `a` from `d`. -/
def nbr (d : Dev nD) (a : Fin 3) : Dev nD := ⟨devWord d (axisMask a), devWord_lt d a⟩

/-! ## The buffers and views -/

abbrev mX : Memref sig .tc .vmem S512x4096 .bf16 := Memref.whole cc0_stg0_0
abbrev mW : Memref sig .tc .hbm S4096x1024 .f32 := Memref.whole main_arg1
abbrev mO : Memref sig .tc .hbm S4096x1024 .f32 := Memref.whole main_v1
abbrev mB : Memref sig .tc .vmem S8x8x64x4096 .bf16 := Memref.whole cc0_scratch0
abbrev mWf : Memref sig .tc .vmem S4096x1024 .f32 := Memref.whole cc0_scratch1
abbrev mWb : Memref sig .tc .vmem S4096x1024 .bf16 := Memref.whole cc0_scratch2
abbrev mS : Memref sig .tc .vmem S4x64x1024 .f32 := Memref.whole cc0_scratch3

/-- `n` slots of a row part: the shape of a slice of the slot buffer, and squeezed. -/
abbrev sh4 (ph : Fin 3) : Shape := ⟨4, ![1, cnt ph, 64, 4096]⟩
abbrev sh3 (ph : Fin 3) : Shape := ⟨3, ![cnt ph, 64, 4096]⟩

theorem sh4_squeezes (ph : Fin 3) : (sh4 ph).Squeezes (sh3 ph) := by revert ph; decide

theorem src_inb (p : Fin 8) (ph : Fin 3) : ∀ a, (![p.val, 0, 0, 0] : Fin 4 → ℕ) a + (sh4 ph).size a ≤ S8x8x64x4096.size a := by
  revert p ph; decide
theorem dst_inb (p : Fin 8) (ph : Fin 3) : ∀ a, (![p.val, cnt ph, 0, 0] : Fin 4 → ℕ) a + (sh4 ph).size a ≤ S8x8x64x4096.size a := by
  revert p ph; decide
theorem slot_inb (p j : Fin 8) : ∀ a, (![p.val, j.val, 0, 0] : Fin 4 → ℕ) a + S1x1x64x4096.size a ≤ S8x8x64x4096.size a := by
  revert p j; decide
theorem rows_inb (p : Fin 8) : ∀ a, (![64 * p.val, 0] : Fin 2 → ℕ) a + S64x4096.size a ≤ S512x4096.size a := by
  revert p; decide
theorem stage_inb (s : Fin 4) : ∀ a, (![s.val, 0, 0] : Fin 3 → ℕ) a + S1x64x1024.size a ≤ S4x64x1024.size a := by
  revert s; decide
theorem sem2_inb (p : Fin 8) (ph : Fin 3) : ∀ a, (![p.val, ph.val] : Fin 2 → ℕ) a + S1x1.size a ≤ S8x3.size a := by
  revert p ph; decide
theorem sem1_inb (s : Fin 4) : ∀ a, (![s.val] : Fin 1 → ℕ) a + S1.size a ≤ S4.size a := by
  revert s; decide
theorem src_words (p : Fin 8) (ph : Fin 3) : (Rect.unit (s := S8x8x64x4096) ![p.val, 0, 0, 0] (sh4 ph).size (src_inb p ph)).WholeWords (EltTy.packing .bf16) := by
  revert p ph; decide
theorem dst_words (p : Fin 8) (ph : Fin 3) : (Rect.unit (s := S8x8x64x4096) ![p.val, cnt ph, 0, 0] (sh4 ph).size (dst_inb p ph)).WholeWords (EltTy.packing .bf16) := by
  revert p ph; decide
theorem slot_packed (p j : Fin 8) : (Rect.unit (s := S8x8x64x4096) ![p.val, j.val, 0, 0] S1x1x64x4096.size (slot_inb p j)).PackedRows (EltTy.packing .bf16) := by
  revert p j; decide

abbrev rSlot (p j : Fin 8) : Rect S8x8x64x4096 := Rect.unit (s := S8x8x64x4096) ![p.val, j.val, 0, 0] S1x1x64x4096.size (slot_inb p j)
abbrev rRows (p : Fin 8) : Rect S512x4096 := Rect.unit (s := S512x4096) ![64 * p.val, 0] S64x4096.size (rows_inb p)
abbrev rStage (s : Fin 4) : Rect S4x64x1024 := Rect.unit (s := S4x64x1024) ![s.val, 0, 0] S1x64x1024.size (stage_inb s)
abbrev rW : Rect S4096x1024 := Rect.unit (s := S4096x1024) ![0, 0] S4096x1024.size inb_S4096x1024_S4096x1024_0_0
abbrev rSrc (p : Fin 8) (ph : Fin 3) : Rect S8x8x64x4096 := Rect.unit (s := S8x8x64x4096) ![p.val, 0, 0, 0] (sh4 ph).size (src_inb p ph)
abbrev rDst (p : Fin 8) (ph : Fin 3) : Rect S8x8x64x4096 := Rect.unit (s := S8x8x64x4096) ![p.val, cnt ph, 0, 0] (sh4 ph).size (dst_inb p ph)
abbrev rOut (d : Dev nD) (p j : Fin 8) : Rect S4096x1024 :=
  Rect.unit (s := S4096x1024) (k0_off1 d (BitVec.ofNat 32 (slotMask p j).val) (BitVec.ofNat 32 (64 * p.val))) S64x1024.size (k0_off1_inb d (slotMask p j) p)

/-- The slots phase `ph` sends of row part `p`, where they land, a stage, and the rows of the result a stage is copied to. -/
abbrev vSrc (p : Fin 8) (ph : Fin 3) : Memref sig .tc .vmem (sh3 ph) .bf16 := (mB.slice (rSrc p ph) (fun _ => rfl)).squeeze (sh3 ph) (sh4_squeezes ph)
abbrev vDst (p : Fin 8) (ph : Fin 3) : Memref sig .tc .vmem (sh3 ph) .bf16 := (mB.slice (rDst p ph) (fun _ => rfl)).squeeze (sh3 ph) (sh4_squeezes ph)
abbrev vStage (s : Fin 4) : Memref sig .tc .vmem S64x1024 .f32 := (mS.slice (rStage s) (fun _ => rfl)).squeeze S64x1024 squeezes_S1x64x1024_S64x1024
abbrev vOut (d : Dev nD) (p j : Fin 8) : Memref sig .tc .hbm S64x1024 .f32 := mO.slice (rOut d p j) (fun _ => rfl)

theorem wordExact_src (p : Fin 8) (ph : Fin 3) : (vSrc p ph).view.WordExact :=
  ((Memref.isWhole_whole cc0_scratch0).wordExact_slice rfl _ (src_words p ph)).reshape _ _
theorem wordExact_dst (p : Fin 8) (ph : Fin 3) : (vDst p ph).view.WordExact :=
  ((Memref.isWhole_whole cc0_scratch0).wordExact_slice rfl _ (dst_words p ph)).reshape _ _

/-! ## The semaphores -/

abbrev barS : Sem sig := (SemArray.scalar (sig.barrier 0 rfl) : Sems sig S_).sem
abbrev sendS (p : Fin 8) (ph : Fin 3) : DmaSem sig := ((cc0_scratch4.slice (Rect.unit (s := S8x3) ![p.val, ph.val] S1x1.size (sem2_inb p ph))).squeeze S_ squeezes_S1x1_S_).sem
abbrev recvS (p : Fin 8) (ph : Fin 3) : DmaSem sig := ((cc0_scratch5.slice (Rect.unit (s := S8x3) ![p.val, ph.val] S1x1.size (sem2_inb p ph))).squeeze S_ squeezes_S1x1_S_).sem
abbrev wS : DmaSem sig := (cc0_scratch6 : DmaSems sig S_).sem
abbrev outS (s : Fin 4) : DmaSem sig := ((cc0_scratch7.slice (Rect.unit (s := S4) ![s.val] S1.size (sem1_inb s))).squeeze S_ squeezes_S1_S_).sem

/-! ## What the kernel computes of what it loads -/

/-- Rows of `x` as a slot; -/
def slotPay (v : Vec F S64x4096 .bf16) : FVec F S1x1x64x4096 .bf16 := k0_pay1 v
/-- the weights truncated; -/
def wPay (v : Vec F S4096x1024 .f32) : FVec F S4096x1024 .bf16 := k0_pay10 v
/-- a slot times the weights. -/
def outPay (v : Vec F S1x1x64x4096 .bf16) (w : Vec F S4096x1024 .bf16) : FVec F S1x64x1024 .f32 := k0_pay11 v w

/-! ## The events -/

inductive Ev where
  | wCopy | put (p : Fin 8) | signal (a : Fin 3) | barWait | send (p : Fin 8) (ph : Fin 3) | wWait | wCast
  | emit (p j : Fin 8) (s : Fin 4) | outWait (p j : Fin 8) (s : Fin 4) | recv (p : Fin 8) (ph : Fin 3) | sendWait (p : Fin 8) (ph : Fin 3)

abbrev P (F : FTy → Type) [FloatOps F] : Type 1 := Prog (TpuEff nD τ sig (Elt F) Λ₀ .tc) PUnit

/-- One event of device `d`'s body, then `k`. -/
def step (d : Dev nD) (k : P F) : Ev → P F
  | .wCopy => .op (.enqueueDma mW (.here mWf) (.dma wS) (Memref.isWhole_whole main_arg1).wordExact (Memref.isWhole_whole cc0_scratch1).wordExact ⟨Or.inl rfl, trivial⟩) fun _ => k
  | .put p => .op (.load mX (rRows p).toLoadRect (View.loadsAt_vmem h_S64x4096)) fun v =>
      .op (.load mB (rSlot p 0).toLoadRect (View.loadsAt_vmem h_S1x1x64x4096)) fun _ =>
      .op (.store mB (rSlot p 0) (slotPay v) Finset.univ
        (View.stores_vmem h_S1x1x64x4096 ((Memref.isWhole_whole cc0_scratch0).storeExact_slice rfl _ (slot_packed p 0)) (fun _ => rfl)) (.inl rfl)) fun _ => k
  | .signal a => .op (.semSignal (nbr d a, .tc) barS (1#32 : BitVec 32).toInt) fun _ => k
  | .barWait => .op (.semWait barS (3#32 : BitVec 32).toInt) fun _ => k
  | .send p ph => .op (.enqueueDma (vSrc p ph) (.remote (Dev.tc (nbr d (axisOf p ph))) (vDst p ph) (.dma (sendS p ph))) (.dma (recvS p ph))
      (wordExact_src p ph) (wordExact_dst p ph) ⟨⟨rfl, Or.inl rfl⟩, trivial⟩) fun _ => k
  | .wWait => .op (.waitDma2 wS mW mWf (Memref.isWhole_whole main_arg1).wordExact (Memref.isWhole_whole cc0_scratch1).wordExact) fun _ => k
  | .wCast => .op (.load mWf rW.toLoadRect (View.loadsAt_vmem h_S4096x1024)) fun v =>
      .op (.load mWb rW.toLoadRect (View.loadsAt_vmem h_S4096x1024)) fun _ =>
      .op (.store mWb rW (wPay v) Finset.univ
        (View.stores_vmem h_S4096x1024 ((Memref.isWhole_whole cc0_scratch2).storeExact_slice rfl _ packedbf16_S4096x1024_S4096x1024_0_0) (fun _ => rfl)) (.inl rfl)) fun _ => k
  | .emit p j s => .op (.load mB (rSlot p j).toLoadRect (View.loadsAt_vmem h_S1x1x64x4096)) fun v =>
      .op (.load mWb rW.toLoadRect (View.loadsAt_vmem h_S4096x1024)) fun w =>
      .op (.load mS (rStage s).toLoadRect (View.loadsAt_vmem h_S1x64x1024)) fun _ =>
      .op (.store mS (rStage s) (outPay v w) Finset.univ (View.stores_vmem_bits_univ h_S1x64x1024 rfl) (.inl rfl)) fun _ =>
      .op (.enqueueDma (vStage s) (.here (vOut d p j)) (.dma (outS s)) ((View.wordExact_bits rfl).reshape _ _) (View.wordExact_bits rfl) ⟨Or.inl rfl, trivial⟩) fun _ => k
  | .outWait p j s => .op (.waitDma2 (outS s) (vStage s) (vOut d p j) ((View.wordExact_bits rfl).reshape _ _) (View.wordExact_bits rfl)) fun _ => k
  | .recv p ph => .op (.waitDma2 (recvS p ph) (vSrc p ph) (vDst p ph) (wordExact_src p ph) (wordExact_dst p ph)) fun _ => k
  | .sendWait p ph => .op (.waitDma2 (sendS p ph) (vDst p ph) (vSrc p ph) (wordExact_dst p ph) (wordExact_src p ph)) fun _ => k

/-- The events in order. -/
def run (d : Dev nD) : List Ev → P F
  | [] => .ret ⟨⟩
  | e :: es => step d (run d es) e

/-! ## The order of the events -/

/-- The order phase `ph`'s arrivals are awaited in. -/
abbrev order (ph : Fin 3) : List (Fin 8) :=
  (![[0, 1, 2, 3, 4, 5, 6, 7], [0, 3, 4, 1, 2, 5, 6, 7], [0, 3, 2, 1, 4, 5, 6, 7]] : Fin 3 → List (Fin 8)) ph

/-- The emissions in order: row part and slot. -/
abbrev emitOrder : List (Fin 8 × Fin 8) :=
  (List.finRange 8).map (fun p => (p, 0)) ++ (order 0).map (fun p => (p, 1))
    ++ (order 1).flatMap (fun p => [(p, 2), (p, 3)]) ++ (order 2).flatMap (fun p => [(p, 4), (p, 5), (p, 6), (p, 7)])

/-- Emission `i`. -/
def em (i : ℕ) : Fin 8 × Fin 8 := emitOrder.getD i (0, 0)
/-- Emission `i`'s stage. -/
def st (i : ℕ) : Fin 4 := ⟨i % 4, Nat.mod_lt _ (by decide)⟩

def evOut (i : ℕ) : Ev := .outWait (em i).1 (em i).2 (st i)
def evEmit (i : ℕ) : Ev := .emit (em i).1 (em i).2 (st i)

/-- Emission `i`, the copy four before it awaited first. -/
def emission (i : ℕ) : List Ev := if 4 ≤ i then [evOut (i - 4), evEmit i] else [evEmit i]

/-- Everything up to the first arrival. -/
def evHead : List Ev :=
  [.wCopy] ++ (List.finRange 8).map .put ++ [.signal 0, .signal 1, .signal 2, .barWait] ++ (List.finRange 8).map (fun p => .send p 0)
    ++ [.wWait, .wCast] ++ (List.range 8).flatMap emission
/-- The three phases. -/
def evPhase0 : List Ev := (List.range 8).flatMap fun i => [.recv ((order 0).getD i 0) 0, .send ((order 0).getD i 0) 1] ++ emission (8 + i)
def evPhase1 : List Ev := (List.range 8).flatMap fun i => [.recv ((order 1).getD i 0) 1, .send ((order 1).getD i 0) 2] ++ (emission (16 + 2 * i) ++ emission (17 + 2 * i))
def evPhase2 : List Ev := (List.range 8).flatMap fun i => [.recv ((order 2).getD i 0) 2] ++ (List.range 4).flatMap fun j => emission (32 + 4 * i + j)
/-- The end: the sends and the last four copies out awaited. -/
def evTail : List Ev :=
  (List.finRange 8).map (fun p => .sendWait p 0) ++ (order 0).map (fun p => .sendWait p 1) ++ (order 1).map (fun p => .sendWait p 2)
    ++ [evOut 60, evOut 61, evOut 62, evOut 63]
def evs : List Ev := evHead ++ evPhase0 ++ evPhase1 ++ evPhase2 ++ evTail

abbrev body : P F :=
  cc0_body (win0_0.stage 0) (hstage0_0 0) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

set_option maxRecDepth 1000000 in
set_option maxHeartbeats 4000000 in
/-- The kernel's body is its device id read, then the events in order. -/
theorem body_eq : body (F := F) = .op .deviceId fun d => run d evs := rfl

end Cert.KProof
end
-- ==== Proof.Geometry.lean ====
/-
# Which elements the kernel's views cover, and what its copies leave in them

The slot buffer of a device is cut into 32 parts: per row part its own slot, and the slots each of the three phases
brings. Every device's slot buffer has ONE intended contents, `fB`: slot `j` of row part `p` holds the rows of the
device at XOR distance `slotMask p j`. A send copies intended contents into intended contents.
-/
module

public import proofs.«01_k».proof.Proof.Steps
public import Idealize.ShloMosaic.Lib.ValueLayout
public import Idealize.ShloMosaic.Lib.ValueIdxCoords
public import Idealize.ShloMosaic.Lib.Pipeline.Value

@[expose] public section

noncomputable section

namespace Cert.KProof

open Cert.KernelIdeal Cert.KernelIdeal.Gen
open Idealize.ShloMosaic Idealize.ShloMosaic.ValueIdx
open Idealize.ShloMosaic.TcCoe
open Idealize.SL.Sem

variable {F : FTy → Type} [FloatOps F]

/-! ## Devices at an XOR distance -/

/-- The device whose rows slot `j` of row part `p` of device `c` holds. -/
def org (c : Dev nD) (p j : Fin 8) : Dev nD := ⟨(c.val ^^^ (slotMask p j).val) % 8, Nat.mod_lt _ (by decide)⟩

theorem nbr_nbr (c : Dev nD) (a : Fin 3) : nbr (nbr c a) a = c := by revert c a; decide
theorem nbr_inj (c : Dev nD) (a b : Fin 3) (h : nbr c a = nbr c b) : a = b := by revert c a b; decide

/-- Slot `cnt ph + k` of the neighbour a phase sends to is slot `k` of the sender. -/
theorem org_nbr (c : Dev nD) (p : Fin 8) (ph : Fin 3) (j k : Fin 8) (hk : k.val < cnt ph) (hj : j.val = cnt ph + k.val) :
    org (nbr c (axisOf p ph)) p j = org c p k := by
  revert c p ph j k; decide +kernel

theorem org_inj (c : Dev nD) (p j k : Fin 8) (h : org c p j = org c p k) : j = k := by revert c p j k; decide +kernel

/-! ## The parts of the slot buffer -/

/-- The first slot and the number of slots of the groups: the own slot, then what each phase brings. -/
abbrev goff : Fin 4 → ℕ := ![0, 1, 2, 4]
abbrev gsz : Fin 4 → ℕ := ![1, 1, 2, 4]

/-- The group a slot belongs to. -/
abbrev grp : Fin 8 → Fin 4 := ![0, 1, 2, 2, 3, 3, 3, 3]

theorem grp_inb (p : Fin 8) (g : Fin 4) : ∀ a, (![p.val, goff g, 0, 0] : Fin 4 → ℕ) a + (![1, gsz g, 64, 4096] : Fin 4 → ℕ) a ≤ S8x8x64x4096.size a := by
  revert p g; decide

/-- The elements of group `g` of row part `p`. -/
def gS (x : Fin 8 × Fin 4) : Finset S8x8x64x4096.Idx := (Rect.unit (s := S8x8x64x4096) ![x.1.val, goff x.2, 0, 0] ![1, gsz x.2, 64, 4096] (grp_inb x.1 x.2)).set

theorem mem_gS {x : Fin 8 × Fin 4} {i : S8x8x64x4096.Idx} :
    i ∈ gS x ↔ (i 0).val = x.1.val ∧ goff x.2 ≤ (i 1).val ∧ (i 1).val < goff x.2 + gsz x.2 := by
  have h0 : (i 0).val < 8 := (i 0).isLt
  have h1 : (i 1).val < 8 := (i 1).isLt
  have h2 : (i 2).val < 64 := (i 2).isLt
  have h3 : (i 3).val < 4096 := (i 3).isLt
  unfold gS
  rw [Rect.mem_set_unit, Fin.forall_fin_succ, Fin.forall_fin_succ, Fin.forall_fin_succ, Fin.forall_fin_one]
  show ((x.1.val ≤ (i 0).val ∧ (i 0).val < x.1.val + 1) ∧ (goff x.2 ≤ (i 1).val ∧ (i 1).val < goff x.2 + gsz x.2)
    ∧ (0 ≤ (i 2).val ∧ (i 2).val < 0 + 64) ∧ (0 ≤ (i 3).val ∧ (i 3).val < 0 + 4096)) ↔ _
  omega

theorem cnt_le (ph : Fin 3) : cnt ph + cnt ph ≤ 8 := by revert ph; decide

theorem goff_disj (g g' : Fin 4) (h : g ≠ g') : goff g + gsz g ≤ goff g' ∨ goff g' + gsz g' ≤ goff g := by
  revert g g'; decide

theorem gS_disj (x y : Fin 8 × Fin 4) (h : x ≠ y) : Disjoint (gS x) (gS y) := by
  rw [Finset.disjoint_left]
  intro i hi hj
  rw [mem_gS] at hi hj
  apply h
  have h1 : x.1 = y.1 := Fin.ext (by omega)
  by_cases h2 : x.2 = y.2
  · exact Prod.ext h1 h2
  · rcases goff_disj _ _ h2 with h3 | h3 <;> omega

theorem goff_grp (j : Fin 8) : goff (grp j) ≤ j.val ∧ j.val < goff (grp j) + gsz (grp j) := by revert j; decide

theorem gS_cover : (Finset.univ : Finset (Fin 8 × Fin 4)).biUnion gS = Finset.univ := by
  ext i
  simp only [Finset.mem_biUnion, Finset.mem_univ, true_and, iff_true]
  exact ⟨((i 0 : Fin 8), grp (i 1 : Fin 8)), mem_gS.2 ⟨rfl, (goff_grp (i 1 : Fin 8)).1, (goff_grp (i 1 : Fin 8)).2⟩⟩

theorem set_slot (p j : Fin 8) : (mB.access (rSlot p j)).set = (rSlot p j).set := View.set_slice_whole _ _

theorem slot_sub (p j : Fin 8) : (rSlot p j).set ⊆ gS (p, grp j) := by
  intro i hi
  rw [Rect.mem_set_unit] at hi
  have e0 : p.val ≤ (i 0).val ∧ (i 0).val < p.val + 1 := hi 0
  have e1 : j.val ≤ (i 1).val ∧ (i 1).val < j.val + 1 := hi 1
  have := goff_grp j
  rw [mem_gS]
  dsimp only
  omega

theorem slot0_set (p : Fin 8) : (rSlot p 0).set = gS (p, 0) := rfl

theorem set_dst (p : Fin 8) (ph : Fin 3) : (vDst p ph).view.set = gS (p, ph.succ) := by
  rw [Memref.set_view_squeeze]
  refine (View.set_slice_whole _ _).trans ?_
  show (rDst p ph).set = gS (p, ph.succ)
  refine Finset.ext fun (i : S8x8x64x4096.Idx) => ?_
  rw [mem_gS, Rect.mem_set_unit, Fin.forall_fin_succ, Fin.forall_fin_succ, Fin.forall_fin_succ, Fin.forall_fin_one]
  have h2 : (i 2).val < 64 := (i 2).isLt
  have h3 : (i 3).val < 4096 := (i 3).isLt
  have hg : goff ph.succ = cnt ph ∧ gsz ph.succ = cnt ph := by revert ph; decide
  show ((p.val ≤ (i 0).val ∧ (i 0).val < p.val + 1) ∧ (cnt ph ≤ (i 1).val ∧ (i 1).val < cnt ph + cnt ph)
    ∧ (0 ≤ (i 2).val ∧ (i 2).val < 0 + 64) ∧ (0 ≤ (i 3).val ∧ (i 3).val < 0 + 4096)) ↔ _
  dsimp only
  rw [hg.1, hg.2]
  omega

/-- The groups a phase sends: the own slot and everything the earlier phases brought. -/
abbrev sentG (ph : Fin 3) : Finset (Fin 4) := Finset.univ.filter fun g => g.val ≤ ph.val

theorem set_src (p : Fin 8) (ph : Fin 3) : (vSrc p ph).view.set = (sentG ph).biUnion fun g => gS (p, g) := by
  rw [Memref.set_view_squeeze]
  refine (View.set_slice_whole _ _).trans ?_
  show (rSrc p ph).set = (sentG ph).biUnion fun g => gS (p, g)
  refine Finset.ext fun (i : S8x8x64x4096.Idx) => ?_
  simp only [Finset.mem_biUnion, mem_gS]
  rw [Rect.mem_set_unit, Fin.forall_fin_succ, Fin.forall_fin_succ, Fin.forall_fin_succ, Fin.forall_fin_one]
  have h2 : (i 2).val < 64 := (i 2).isLt
  have h3 : (i 3).val < 4096 := (i 3).isLt
  show ((p.val ≤ (i 0).val ∧ (i 0).val < p.val + 1) ∧ (0 ≤ (i 1).val ∧ (i 1).val < 0 + cnt ph)
    ∧ (0 ≤ (i 2).val ∧ (i 2).val < 0 + 64) ∧ (0 ≤ (i 3).val ∧ (i 3).val < 0 + 4096)) ↔ _
  have h1 : ∀ j : Fin 8, j.val < cnt ph ↔ ∃ g ∈ sentG ph, goff g ≤ j.val ∧ j.val < goff g + gsz g := by
    revert ph; decide
  have := h1 (i 1 : Fin 8)
  constructor
  · intro h
    obtain ⟨g, hg, h4⟩ := this.1 (show (i 1).val < cnt ph by omega)
    exact ⟨g, hg, by omega, h4⟩
  · rintro ⟨g, hg, h4, h5⟩
    have := this.2 ⟨g, hg, h5⟩
    exact ⟨by omega, ⟨by omega, by simpa using this⟩, by omega, by omega⟩

/-! ## The stages, and the blocks of the result -/

def sS (s : Fin 4) : Finset S4x64x1024.Idx := (rStage s).set

theorem mem_sS {s : Fin 4} {i : S4x64x1024.Idx} : i ∈ sS s ↔ (i 0).val = s.val := by
  have h2 : (i 1).val < 64 := (i 1).isLt
  have h3 : (i 2).val < 1024 := (i 2).isLt
  unfold sS
  rw [Rect.mem_set_unit, Fin.forall_fin_succ, Fin.forall_fin_succ, Fin.forall_fin_one]
  show ((s.val ≤ (i 0).val ∧ (i 0).val < s.val + 1) ∧ (0 ≤ (i 1).val ∧ (i 1).val < 0 + 64) ∧ (0 ≤ (i 2).val ∧ (i 2).val < 0 + 1024)) ↔ _
  omega

theorem sS_disj (s t : Fin 4) (h : s ≠ t) : Disjoint (sS s) (sS t) := by
  rw [Finset.disjoint_left]
  intro i hi hj
  rw [mem_sS] at hi hj
  exact h (Fin.ext (by omega))

theorem sS_cover : (Finset.univ : Finset (Fin 4)).biUnion sS = Finset.univ := by
  ext i
  simp only [Finset.mem_biUnion, Finset.mem_univ, true_and, iff_true]
  exact ⟨(i 0 : Fin 4), mem_sS.2 rfl⟩

theorem set_stage (s : Fin 4) : (vStage s).view.set = sS s := by
  rw [Memref.set_view_squeeze]; exact View.set_slice_whole _ _

/-- The rows of the result slot `j` of row part `p` is multiplied into: row part `p` of its device. -/
theorem off_out (c : Dev nD) (p j : Fin 8) : k0_off1 c (BitVec.ofNat 32 (slotMask p j).val) (BitVec.ofNat 32 (64 * p.val)) = ![512 * (org c p j).val + 64 * p.val, 0] := by
  revert c p j; decide +kernel

def oS (c : Dev nD) (x : Fin 8 × Fin 8) : Finset S4096x1024.Idx := (rOut c x.1 x.2).set

theorem mem_oS {c : Dev nD} {x : Fin 8 × Fin 8} {i : S4096x1024.Idx} :
    i ∈ oS c x ↔ 512 * (org c x.1 x.2).val + 64 * x.1.val ≤ (i 0).val ∧ (i 0).val < 512 * (org c x.1 x.2).val + 64 * x.1.val + 64 := by
  have h3 : (i 1).val < 1024 := (i 1).isLt
  unfold oS
  rw [Rect.mem_set_unit, off_out, Fin.forall_fin_succ, Fin.forall_fin_one]
  show ((512 * (org c x.1 x.2).val + 64 * x.1.val ≤ (i 0).val ∧ (i 0).val < 512 * (org c x.1 x.2).val + 64 * x.1.val + 64) ∧ (0 ≤ (i 1).val ∧ (i 1).val < 0 + 1024)) ↔ _
  omega

theorem oS_disj (c : Dev nD) (x y : Fin 8 × Fin 8) (h : x ≠ y) : Disjoint (oS c x) (oS c y) := by
  rw [Finset.disjoint_left]
  intro i hi hj
  rw [mem_oS] at hi hj
  have hp : x.1 = y.1 := Fin.ext (by omega)
  have ho : org c x.1 x.2 = org c x.1 y.2 := by rw [← hp] at hj; exact Fin.ext (by omega)
  exact h (Prod.ext hp (org_inj c _ _ _ ho))

theorem org_surj (c : Dev nD) (p : Fin 8) (o : Fin 8) : ∃ j, (org c p j).val = o.val := by revert c p o; decide +kernel

theorem oS_cover (c : Dev nD) : (Finset.univ : Finset (Fin 8 × Fin 8)).biUnion (oS c) = Finset.univ := by
  ext i
  simp only [Finset.mem_biUnion, Finset.mem_univ, true_and, iff_true]
  have h : (i 0).val < 4096 := (i 0).isLt
  obtain ⟨j, hj⟩ := org_surj c ⟨(i 0).val % 512 / 64, by omega⟩ ⟨(i 0).val / 512, by omega⟩
  refine ⟨(⟨(i 0).val % 512 / 64, by omega⟩, j), mem_oS.2 ?_⟩
  dsimp only at hj ⊢
  omega

theorem set_out (c : Dev nD) (p j : Fin 8) : (vOut c p j).view.set = oS c (p, j) := View.set_slice_whole _ _

/-! ## Contents -/

/-- The contents of a device's staged rows of `x`, of its weights, and of its result. -/
abbrev XC (F : FTy → Type) : Type := (cc0_stg0_0 : Ref sig .tc).ty.Contents (Elt F)
abbrev BC (F : FTy → Type) : Type := (cc0_scratch0 : Ref sig .tc).ty.Contents (Elt F)
abbrev OC (F : FTy → Type) : Type := (main_v1 : Ref sig .tc).ty.Contents (Elt F)

/-- Row part `p` of the rows `x`, as a slot. -/
def slotBlk (x : XC F) (p : Fin 8) : Vec F S1x1x64x4096 .bf16 := fun y =>
  x (ix2 (⟨64 * p.val + (y 2).val, by have h : (y 2).val < 64 := (y 2).isLt; omega⟩ : Fin 512) (y 3 : Fin 4096))

/-- The intended contents of device `c`'s slot buffer, `X` the devices' rows. -/
def fB (X : Dev nD → XC F) (c : Dev nD) : BC F := fun i => slotBlk (X (org c (i 0) (i 1))) (i 0) (ix4 (0 : Fin 1) (0 : Fin 1) (i 2 : Fin 64) (i 3 : Fin 4096))

/-- The contents of the result: row `R` is row `R % 512` of device `R / 512`'s rows of `x`, times the weights `w`. -/
def fO (X : Dev nD → XC F) (w : Vec F S4096x1024 .bf16) : OC F := fun i =>
  outPay (slotBlk (X ⟨(i 0).val / 512, by have h : (i 0).val < 4096 := (i 0).isLt; show _ < 8; omega⟩) ⟨(i 0).val % 512 / 64, by omega⟩) w
    (ix3 (0 : Fin 1) (⟨(i 0).val % 64, by omega⟩ : Fin 64) (i 1 : Fin 1024))

/-- A slot's payload is the slot of the rows read. -/
theorem slotPay_eq (x : XC F) (p : Fin 8) : slotPay (mX.view.readAt (Elt F) (rRows p).toLoadRect x) = slotBlk x p := by
  funext y
  unfold slotPay k0_pay1
  dsimp only
  refine (shapeCast_apply _ _ y (ix2 (y 2 : Fin 64) (y 3 : Fin 4096)) (by
      have h0 : (y 0).val < 1 := (y 0).isLt
      have h1 : (y 1).val < 1 := (y 1).isLt
      rw [Shape.rowMajor_val_four, Shape.rowMajor_val_two]
      show (y 2).val * 4096 + (y 3).val = ((((y 0).val * 1 + (y 1).val) * 64 + (y 2).val) * 4096 + (y 3).val)
      omega)).trans ?_
  refine (congrArg (mX.view.readAt (Elt F) (rRows p).toLoadRect x) (Shape.reshapeEquiv_self (s := S64x4096) shapeCasts_S64x4096_S64x4096 (ix2 (y 2 : Fin 64) (y 3 : Fin 4096)))).trans ?_
  show x ((rRows p).emb (ix2 (y 2 : Fin 64) (y 3 : Fin 4096))) = x _
  congr 1
  funext a
  apply Fin.ext
  rw [Rect.emb_apply]
  match a with
  | ⟨0, _⟩ => show 64 * p.val + 1 * (y 2).val = 64 * p.val + (y 2).val; omega
  | ⟨1, _⟩ => show 0 + 1 * (y 3).val = (y 3).val; omega

theorem fB_slot (X : Dev nD → XC F) (c : Dev nD) (p j : Fin 8) (y : S1x1x64x4096.Idx) : fB X c ((rSlot p j).emb y) = slotBlk (X (org c p j)) p y := by
  have h0 : (y 0).val < 1 := (y 0).isLt
  have h1 : (y 1).val < 1 := (y 1).isLt
  have e0 : ((rSlot p j).emb y 0 : Fin 8) = p := Fin.ext (by show p.val + 1 * (y 0).val = p.val; omega)
  have e1 : ((rSlot p j).emb y 1 : Fin 8) = j := Fin.ext (by show j.val + 1 * (y 1).val = j.val; omega)
  have e2 : ((rSlot p j).emb y 2 : Fin 64) = (y 2 : Fin 64) := Fin.ext (by show 0 + 1 * (y 2).val = _; omega)
  have e3 : ((rSlot p j).emb y 3 : Fin 4096) = (y 3 : Fin 4096) := Fin.ext (by show 0 + 1 * (y 3).val = _; omega)
  unfold fB
  rw [e0, e1, e2, e3]
  rfl

/-- Storing the payload leaves the own slot at its intended contents. -/
theorem put_contents (X : Dev nD → XC F) (c : Dev nD) (p : Fin 8) (hc : org c p 0 = c) (f : BC F) :
    ∀ i ∈ gS (p, 0), (mB.access (rSlot p 0)).write (Elt F) f (slotPay (mX.view.readAt (Elt F) (rRows p).toLoadRect (X c))) Finset.univ i = fB X c i := by
  intro i hi
  rw [← slot0_set, ← Rect.map_emb_univ, Finset.mem_map] at hi
  obtain ⟨y, -, rfl⟩ := hi
  rw [fB_slot, hc, ← slotPay_eq]
  exact (View.write_emb_of_mem (v := mB.access (rSlot p 0)) f _ (Finset.mem_univ y)).trans (cast_eq _ _)

theorem org_zero (c : Dev nD) (p : Fin 8) : org c p 0 = c := by revert c p; decide

/-- What an emission reads of the slot buffer. -/
theorem load_contents (X : Dev nD → XC F) (c : Dev nD) (p j : Fin 8) :
    mB.view.readAt (Elt F) (rSlot p j).toLoadRect (fB X c) = slotBlk (X (org c p j)) p :=
  funext fun y => fB_slot X c p j y

theorem emb_src (p : Fin 8) (ph : Fin 3) (x : (sh3 ph).Idx) : (vSrc p ph).view.emb x = (rSrc p ph).emb (Shape.reshapeEquiv (sh4_squeezes ph).numel_eq x) := rfl
theorem emb_dst (p : Fin 8) (ph : Fin 3) (x : (sh3 ph).Idx) : (vDst p ph).view.emb x = (rDst p ph).emb (Shape.reshapeEquiv (sh4_squeezes ph).numel_eq x) := rfl

/-- A send leaves the slots it lands in at their intended contents. -/
theorem send_contents (X : Dev nD → XC F) (c : Dev nD) (p : Fin 8) (ph : Fin 3) (fd : BC F) :
    ∀ i ∈ gS (p, ph.succ), (vDst p ph).view.write (Elt F) fd ((vSrc p ph).view.read (Elt F) (fB X c)) Finset.univ i = fB X (nbr c (axisOf p ph)) i := by
  intro i hi
  rw [← set_dst] at hi
  obtain ⟨x, -, rfl⟩ := Finset.mem_map.1 hi
  refine (View.write_emb_of_mem (v := (vDst p ph).view) fd _ (Finset.mem_univ x)).trans ((cast_eq _ _).trans ?_)
  show fB X c ((vSrc p ph).view.emb x) = _
  rw [emb_src, emb_dst]
  obtain ⟨y, hy⟩ : ∃ y : (sh4 ph).Idx, y = Shape.reshapeEquiv (sh4_squeezes ph).numel_eq x := ⟨_, rfl⟩
  rw [← hy]
  have h0 : (y 0).val < 1 := (y 0).isLt
  have h1 : (y 1).val < cnt ph := (y 1).isLt
  have hc8 : cnt ph + cnt ph ≤ 8 := cnt_le ph
  have s0 : ((rSrc p ph).emb y 0 : Fin 8) = p := Fin.ext (by show p.val + 1 * (y 0).val = p.val; omega)
  have b1 : (y 1).val < 8 := by omega
  have b2 : cnt ph + (y 1).val < 8 := by omega
  obtain ⟨k, hk⟩ : ∃ k : Fin 8, k.val = (y 1).val := ⟨⟨_, b1⟩, rfl⟩
  obtain ⟨l, hl⟩ : ∃ l : Fin 8, l.val = cnt ph + (y 1).val := ⟨⟨_, b2⟩, rfl⟩
  have s1 : ((rSrc p ph).emb y 1 : Fin 8) = k := Fin.ext (by show 0 + 1 * (y 1).val = _; omega)
  have d0 : ((rDst p ph).emb y 0 : Fin 8) = p := Fin.ext (by show p.val + 1 * (y 0).val = p.val; omega)
  have d1 : ((rDst p ph).emb y 1 : Fin 8) = l := Fin.ext (by show cnt ph + 1 * (y 1).val = _; omega)
  have e2 : ((rDst p ph).emb y 2 : Fin 64) = ((rSrc p ph).emb y 2 : Fin 64) := rfl
  have e3 : ((rDst p ph).emb y 3 : Fin 4096) = ((rSrc p ph).emb y 3 : Fin 4096) := rfl
  unfold fB
  rw [s0, s1, d0, d1, e2, e3, org_nbr c p ph l k (by omega) (by omega)]

/-- An emission: the stage written, then copied into the rows of the result. -/
theorem emit_contents (X : Dev nD → XC F) (w : Vec F S4096x1024 .bf16) (c : Dev nD) (p j : Fin 8) (s : Fin 4)
    (fs : (cc0_scratch3 : Ref sig .tc).ty.Contents (Elt F)) (fd : OC F) :
    ∀ i ∈ oS c (p, j), (vOut c p j).view.write (Elt F) fd ((vStage s).view.read (Elt F)
      ((mS.access (rStage s)).write (Elt F) fs (outPay (slotBlk (X (org c p j)) p) w) Finset.univ)) Finset.univ i = fO X w i := by
  intro i hi
  have hm := mem_oS.1 hi
  rw [← set_out] at hi
  obtain ⟨x, -, rfl⟩ := Finset.mem_map.1 hi
  refine (View.write_emb_of_mem (v := (vOut c p j).view) fd _ (Finset.mem_univ x)).trans ((cast_eq _ _).trans ?_)
  have hx : x = ix2 (x 0 : Fin 64) (x 1 : Fin 1024) := eq_ix2 x
  have hst : (vStage s).view.emb x = (mS.access (rStage s)).emb (ix3 (0 : Fin 1) (x 0 : Fin 64) (x 1 : Fin 1024)) := by
    conv_lhs => rw [hx]
    exact congrArg (rStage s).emb (reshapeEquiv_ix2_1ab (a := 64) (b := 1024) squeezes_S1x64x1024_S64x1024.numel_eq (x 0 : Fin 64) (x 1 : Fin 1024))
  rw [View.read_apply]
  refine (cast_eq _ _).trans ?_
  rw [hst]
  refine (View.write_emb_of_mem (v := mS.access (rStage s)) fs _ (Finset.mem_univ _)).trans ((cast_eq _ _).trans ?_)
  have hx0 : (x 0).val < 64 := (x 0).isLt
  have ho : (org c p j).val < 8 := (org c p j).isLt
  have o0 : ((vOut c p j).view.emb x 0).val = 512 * (org c p j).val + 64 * p.val + (x 0).val := by
    show k0_off1 c (BitVec.ofNat 32 (slotMask p j).val) (BitVec.ofNat 32 (64 * p.val)) 0 + 1 * (x 0).val = _
    rw [off_out]; show 512 * (org c p j).val + 64 * p.val + 1 * (x 0).val = _; omega
  have o1 : ((vOut c p j).view.emb x 1 : Fin 1024) = (x 1 : Fin 1024) := Fin.ext (by
    show k0_off1 c (BitVec.ofNat 32 (slotMask p j).val) (BitVec.ofNat 32 (64 * p.val)) 1 + 1 * (x 1).val = _
    rw [off_out]; show 0 + 1 * (x 1).val = _; omega)
  have a : (⟨((vOut c p j).view.emb x 0).val / 512, by have h : ((vOut c p j).view.emb x 0).val < 4096 := ((vOut c p j).view.emb x 0).isLt; show _ < 8; omega⟩ : Dev nD) = org c p j :=
    Fin.ext (by show ((vOut c p j).view.emb x 0).val / 512 = _; rw [o0]; omega)
  have b : (⟨((vOut c p j).view.emb x 0).val % 512 / 64, by omega⟩ : Fin 8) = p :=
    Fin.ext (by show ((vOut c p j).view.emb x 0).val % 512 / 64 = _; rw [o0]; omega)
  have e : (⟨((vOut c p j).view.emb x 0).val % 64, by omega⟩ : Fin 64) = (x 0 : Fin 64) :=
    Fin.ext (by show ((vOut c p j).view.emb x 0).val % 64 = _; rw [o0]; omega)
  unfold fO
  rw [a, b, e, o1]

end Cert.KProof
end
-- ==== Proof.Protocol.lean ====
/-
# The protocol of the exchange

Every device's kernel synchronises on 54 semaphore cells: the machine's barrier, one send and one receive cell per row
part and phase, the cell of the weights' copy, and one cell per output stage. A cell's schedule says, round by round,
who pays it, how much, and what the payment hands over WITH CONTENTS:
* the barrier (one round): each neighbour pays one unit and hands over its own landing slots for the sends along
  their common axis;
* a receive cell (one round): the neighbour of that phase pays the transfer's credit; the landed slots hold the
  intended contents `fB`;
* a send cell (one round): the sent slots come back;
* the weights' cell (one round): the copied weights and their source come back;
* a stage's cell (sixteen rounds): the rows of the result it was copied to hold `fO`, and the stage comes back.
-/
module

public import proofs.«01_k».proof.Proof.Geometry

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging's rounds and the kernel's own (three duty names) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

/-- A row part and a phase. -/
abbrev PX : Type := Fin 8 × Fin 3

/-- The kernel's own semaphores: send, receive, weights, stages; all of them: the barrier's first. -/
abbrev SI : Type := PX ⊕ PX ⊕ Unit ⊕ Fin 4
abbrev CI : Type := Unit ⊕ SI

instance : DecidableEq SI := fun a b => inferInstanceAs (Decidable (@Eq (PX ⊕ PX ⊕ Unit ⊕ Fin 4) a b))
instance : DecidableEq (Dev nD × CI) := instDecidableEqProd

abbrev osem : SI → SemLoc sig
  | .inl x => .dma (sendS x.1 x.2)
  | .inr (.inl x) => .dma (recvS x.1 x.2)
  | .inr (.inr (.inl _)) => .dma wS
  | .inr (.inr (.inr s)) => .dma (outS s)
abbrev csem : CI → SemLoc sig
  | .inl _ => .reg barS
  | .inr k => osem k

abbrev kcell (ck : Dev nD × CI) : GSem nD τ sig := ((ck.1 : Thread nD τ), csem ck.2)

abbrev barI : CI := .inl ()
abbrev sendI (x : PX) : CI := .inr (.inl x)
abbrev recvI (x : PX) : CI := .inr (.inr (.inl x))
abbrev wI : CI := .inr (.inr (.inr (.inl ())))
abbrev outI (s : Fin 4) : CI := .inr (.inr (.inr (.inr s)))

abbrev barCell (c : Dev nD) : GSem nD τ sig := ((c : Thread nD τ), .reg barS)
abbrev sendCell (c : Dev nD) (x : PX) : GSem nD τ sig := ((c : Thread nD τ), .dma (sendS x.1 x.2))
abbrev recvCell (c : Dev nD) (x : PX) : GSem nD τ sig := ((c : Thread nD τ), .dma (recvS x.1 x.2))
abbrev wCell (c : Dev nD) : GSem nD τ sig := ((c : Thread nD τ), .dma wS)
abbrev outCell (c : Dev nD) (s : Fin 4) : GSem nD τ sig := ((c : Thread nD τ), .dma (outS s))

/-- What a DMA semaphore is for. -/
inductive Role where
  | stage | send (x : PX) | recv (x : PX) | w | out (s : Fin 4)
  deriving DecidableEq

def roleN (n : ℕ) : Role :=
  if n = 0 then .stage
  else if n < 25 then .send (⟨(n - 1) / 3 % 8, Nat.mod_lt _ (by decide)⟩, ⟨(n - 1) % 3, Nat.mod_lt _ (by decide)⟩)
  else if n < 49 then .recv (⟨(n - 25) / 3 % 8, Nat.mod_lt _ (by decide)⟩, ⟨(n - 25) % 3, Nat.mod_lt _ (by decide)⟩)
  else if n = 49 then .w else .out ⟨(n - 50) % 4, Nat.mod_lt _ (by decide)⟩
def role (q : DmaSem sig) : Role := roleN q.val

theorem role_send (x : PX) : role (sendS x.1 x.2) = .send x := by revert x; decide
theorem role_recv (x : PX) : role (recvS x.1 x.2) = .recv x := by revert x; decide
theorem role_w : role wS = .w := by decide
theorem role_out (s : Fin 4) : role (outS s) = .out s := by revert s; decide

/-! ## Credits -/

@[irreducible] def Ncr (ph : Fin 3) : ℕ := (vDst 0 ph).view.dmaCredit
@[irreducible] def NW : ℕ := mWf.view.dmaCredit
@[irreducible] def NO : ℕ := (vOut 0 0 0).view.dmaCredit

theorem sh3_pos (ph : Fin 3) : 0 < (sh3 ph).numel := Shape.numel_pos (by revert ph; decide)
theorem Ncr_pos (ph : Fin 3) : 0 < Ncr ph := by unfold Ncr; exact View.dmaCredit_pos _ (sh3_pos ph)
theorem NW_pos : 0 < NW := by unfold NW; exact View.dmaCredit_pos _ (Shape.numel_pos (by decide))
theorem NO_pos : 0 < NO := by unfold NO; exact View.dmaCredit_pos _ (Shape.numel_pos (by decide))

/-! ## Contents -/

/-- Device `c`'s rows of `x`, as staged; its weights; the weights truncated. -/
def xst (c : Dev nD) : XC F := (win0_0.blk t0_0).view.read (Elt F) (m ((c : Thread nD τ).loc main_arg0))
def wIn (c : Dev nD) : (main_arg1 : Ref sig .tc).ty.Contents (Elt F) := m ((c : Thread nD τ).loc main_arg1)
def wbC (c : Dev nD) : (cc0_scratch2 : Ref sig .tc).ty.Contents (Elt F) := wPay (wIn m c)
/-- The slots and the result of device `c`. -/
def bC (c : Dev nD) : BC F := fB (xst m) c
def oC (c : Dev nD) : OC F := fO (xst m) (wbC m c)

/-- Elements of a device's slot buffer, of its stages, of its result. -/
def bPts (c : Dev nD) (S : Finset S8x8x64x4096.Idx) (q : PosShare TreeShare) (f : BC F) : sProp 𝕄 := ((c : Thread nD τ).loc cc0_scratch0) ↦[S]{q} f
def sPts (c : Dev nD) (S : Finset S4x64x1024.Idx) (f : (cc0_scratch3 : Ref sig .tc).ty.Contents (Elt F)) : sProp 𝕄 := ((c : Thread nD τ).loc cc0_scratch3) ↦[S]{fullShare} f
def oPts (c : Dev nD) (S : Finset S4096x1024.Idx) (f : OC F) : sProp 𝕄 := ((c : Thread nD τ).loc main_v1) ↦[S]{fullShare} f
def wPts (c : Dev nD) (f : (main_arg1 : Ref sig .tc).ty.Contents (Elt F)) : sProp 𝕄 := ((c : Thread nD τ).loc main_arg1) ↦{fullShare} f
def wfPts (c : Dev nD) (f : (cc0_scratch1 : Ref sig .tc).ty.Contents (Elt F)) : sProp 𝕄 := ((c : Thread nD τ).loc cc0_scratch1) ↦{fullShare} f
def wbPts (c : Dev nD) (f : (cc0_scratch2 : Ref sig .tc).ty.Contents (Elt F)) : sProp 𝕄 := ((c : Thread nD τ).loc cc0_scratch2) ↦{fullShare} f
def xPts (c : Dev nD) (f : XC F) : sProp 𝕄 := ((c : Thread nD τ).loc cc0_stg0_0) ↦{fullShare} f

omit [FloatOps F] in
instance (c : Dev nD) (S q f) : BI.Storable (upEmb : UEmb _ 𝕄) (bPts (F := F) c S q f) := by unfold bPts; infer_instance
omit [FloatOps F] in
instance (c : Dev nD) (S f) : BI.Storable (upEmb : UEmb _ 𝕄) (sPts (F := F) c S f) := by unfold sPts; infer_instance
omit [FloatOps F] in
instance (c : Dev nD) (S f) : BI.Storable (upEmb : UEmb _ 𝕄) (oPts (F := F) c S f) := by unfold oPts; infer_instance
omit [FloatOps F] in
instance (c : Dev nD) (f) : BI.Storable (upEmb : UEmb _ 𝕄) (wPts (F := F) c f) := by unfold wPts; infer_instance
omit [FloatOps F] in
instance (c : Dev nD) (f) : BI.Storable (upEmb : UEmb _ 𝕄) (wfPts (F := F) c f) := by unfold wfPts; infer_instance

/-! ## Shares: four quarters of the slot buffer, one per phase and one for the loads -/

def sh : Fin 4 → PosShare TreeShare := ![fullShare.left.left, fullShare.left.right, fullShare.right.left, fullShare.right.right]

/-- The quarter `k` of group `g` of row part `p`, at its intended contents. -/
abbrev Y : Type := Fin 8 × Fin 4 × Fin 4
def piece (c : Dev nD) (y : Y) : sProp 𝕄 := bPts c (gS (y.1, y.2.1)) (sh y.2.2) (bC m c)

instance (c : Dev nD) (y : Y) : BI.Storable (upEmb : UEmb _ 𝕄) (piece (F := F) m c y) := by unfold piece; infer_instance

/-! ## The schedule -/

/-- The phase in which row part `p` goes along axis `a`. -/
def phOf (p : Fin 8) (a : Fin 3) : Fin 3 := if axisOf p 0 = a then 0 else if axisOf p 1 = a then 1 else 2

/-- A device's landing slots of row part and phase `x`, at any contents. -/
def landing (c : Dev nD) (x : PX) : sProp 𝕄 := iprop(∃ f : BC F, bPts c (gS (x.1, x.2.succ)) fullShare f)

def barPay (c : Dev nD) (a : Fin 3) : sProp 𝕄 := bigSep Finset.univ fun p : Fin 8 => landing (nbr c a) (p, phOf p a)
def sendPay (c : Dev nD) (x : PX) : sProp 𝕄 := bigSep (sentG x.2) fun g => piece m c (x.1, g, x.2.castSucc)
def recvPay (c : Dev nD) (x : PX) : sProp 𝕄 := bPts c (gS (x.1, x.2.succ)) fullShare (bC m c)
def wcPay (c : Dev nD) : sProp 𝕄 := iprop(wfPts c (wIn m c) ∗ wPts c (wIn m c))
def outsPay (c : Dev nD) (s : Fin 4) (r : ℕ) : sProp 𝕄 := iprop(oPts c (oS c (em (4 * r + s.val))) (oC m c) ∗ ∃ f, sPts c (sS s) f)

def rolePay (c : Dev nD) (r : ℕ) : Role → sProp 𝕄
  | .stage => iprop(emp) | .send x => sendPay m c x | .recv x => recvPay m c x | .w => wcPay m c | .out s => outsPay m c s r

def roleAmt : Role → ℕ
  | .stage => 1 | .send x => Ncr x.2 | .recv x => Ncr x.2 | .w => NW | .out _ => NO
theorem roleAmt_pos (q : Role) : 0 < roleAmt q := by
  cases q with
  | stage => exact Nat.one_pos
  | send x => exact Ncr_pos _
  | recv x => exact Ncr_pos _
  | w => exact NW_pos
  | out s => exact NO_pos

def Rd : Rounds.Schedule (GSem nD τ sig) (Fin 3) 𝕄 where
  duties g r := if g.1.2 = .tc then (match g.2 with
    | .reg q => if r = 0 ∧ q = barS then Finset.univ else ∅
    | .dma q => match role q with
      | .stage => ∅ | .send _ => if r = 0 then {0} else ∅ | .recv _ => if r = 0 then {0} else ∅ | .w => if r = 0 then {0} else ∅
      | .out _ => if r < 16 then {0} else ∅) else ∅
  unitless _ := False
  amount g _ _ := match g.2 with
    | .reg _ => 1
    | .dma q => roleAmt (role q)
  payload g r d := match g.2 with
    | .reg _ => barPay g.1.1 d
    | .dma q => rolePay m g.1.1 r (role q)
  amount_pos g _ _ _ := by
    rcases g with ⟨_, q | q⟩
    · exact Nat.one_pos
    · exact roleAmt_pos _

instance Rd_payload_storable (g : GSem nD τ sig) (r : ℕ) (d : Fin 3) : BI.Storable (upEmb : UEmb _ 𝕄) ((Rd (F := F) m).payload g r d) := by
  rcases g with ⟨⟨c, k⟩, q | q⟩
  · show BI.Storable upEmb (barPay (F := F) c d); unfold barPay landing; infer_instance
  · show BI.Storable upEmb (rolePay (F := F) m c r (role q))
    cases role q <;> unfold rolePay <;> dsimp only
    · infer_instance
    · unfold sendPay; infer_instance
    · unfold recvPay; infer_instance
    · unfold wcPay; infer_instance
    · unfold outsPay; infer_instance

section Sched
variable (c : Dev nD)

theorem duties_bar : (Rd m).duties (barCell c) 0 = Finset.univ := rfl
theorem duties_send (x : PX) : (Rd m).duties (sendCell c x) 0 = {0} := by dsimp only [Rd]; rw [if_pos rfl, role_send]; rfl
theorem duties_recv (x : PX) : (Rd m).duties (recvCell c x) 0 = {0} := by dsimp only [Rd]; rw [if_pos rfl, role_recv]; rfl
theorem duties_w : (Rd m).duties (wCell c) 0 = {0} := by dsimp only [Rd]; rw [if_pos rfl, role_w]; rfl
theorem duties_out (s : Fin 4) (r : ℕ) (hr : r < 16) : (Rd m).duties (outCell c s) r = {0} := by
  dsimp only [Rd]; rw [if_pos rfl, role_out]; exact if_pos hr

theorem later_bar (r : ℕ) (hr : 1 ≤ r) : (Rd m).duties (barCell c) r = ∅ := by
  dsimp only [Rd]; rw [if_pos rfl]; exact if_neg (by omega)
theorem later_send (x : PX) (r : ℕ) (hr : 1 ≤ r) : (Rd m).duties (sendCell c x) r = ∅ := by
  dsimp only [Rd]; rw [if_pos rfl, role_send]; exact if_neg (by omega)
theorem later_recv (x : PX) (r : ℕ) (hr : 1 ≤ r) : (Rd m).duties (recvCell c x) r = ∅ := by
  dsimp only [Rd]; rw [if_pos rfl, role_recv]; exact if_neg (by omega)
theorem later_w (r : ℕ) (hr : 1 ≤ r) : (Rd m).duties (wCell c) r = ∅ := by
  dsimp only [Rd]; rw [if_pos rfl, role_w]; exact if_neg (by omega)
theorem later_out (s : Fin 4) (r : ℕ) (hr : 16 ≤ r) : (Rd m).duties (outCell c s) r = ∅ := by
  dsimp only [Rd]; rw [if_pos rfl, role_out]; exact if_neg (by omega)

theorem amount_bar (d : Fin 3) : (Rd m).amount (barCell c) 0 d = 1 := rfl
theorem amount_send (x : PX) (d : Fin 3) : (Rd m).amount (sendCell c x) 0 d = Ncr x.2 := by dsimp only [Rd]; rw [role_send]; rfl
theorem amount_recv (x : PX) (d : Fin 3) : (Rd m).amount (recvCell c x) 0 d = Ncr x.2 := by dsimp only [Rd]; rw [role_recv]; rfl
theorem amount_w (d : Fin 3) : (Rd m).amount (wCell c) 0 d = NW := by dsimp only [Rd]; rw [role_w]; rfl
theorem amount_out (s : Fin 4) (r : ℕ) (d : Fin 3) : (Rd m).amount (outCell c s) r d = NO := by dsimp only [Rd]; rw [role_out]; rfl

theorem expect_bar : (Rd m).expect (barCell c) 0 = 3 := by
  unfold Schedule.expect Schedule.amountOf
  rw [duties_bar, Finset.sum_congr rfl fun d _ => amount_bar m c d, Finset.sum_const, Finset.card_univ, Fintype.card_fin, smul_eq_mul]
theorem expect_single (g : GSem nD τ sig) (r N : ℕ) (hd : (Rd m).duties g r = {0}) (ha : (Rd m).amount g r 0 = N) : (Rd m).expect g r = N := by
  unfold Schedule.expect Schedule.amountOf; rw [hd, Finset.sum_singleton, ha]
theorem expect_send (x : PX) : (Rd m).expect (sendCell c x) 0 = Ncr x.2 := expect_single m _ _ _ (duties_send m c x) (amount_send m c x 0)
theorem expect_recv (x : PX) : (Rd m).expect (recvCell c x) 0 = Ncr x.2 := expect_single m _ _ _ (duties_recv m c x) (amount_recv m c x 0)
theorem expect_w : (Rd m).expect (wCell c) 0 = NW := expect_single m _ _ _ (duties_w m c) (amount_w m c 0)
theorem expect_out (s : Fin 4) (r : ℕ) (hr : r < 16) : (Rd m).expect (outCell c s) r = NO := expect_single m _ _ _ (duties_out m c s r hr) (amount_out m c s r 0)

theorem payload_bar (d : Fin 3) : (Rd m).payload (barCell c) 0 d = barPay c d := rfl
theorem payload_send (x : PX) (d : Fin 3) : (Rd m).payload (sendCell c x) 0 d = sendPay m c x := by dsimp only [Rd]; rw [role_send]; rfl
theorem payload_recv (x : PX) (d : Fin 3) : (Rd m).payload (recvCell c x) 0 d = recvPay m c x := by dsimp only [Rd]; rw [role_recv]; rfl
theorem payload_w (d : Fin 3) : (Rd m).payload (wCell c) 0 d = wcPay m c := by dsimp only [Rd]; rw [role_w]; rfl
theorem payload_out (s : Fin 4) (r : ℕ) (d : Fin 3) : (Rd m).payload (outCell c s) r d = outsPay m c s r := by dsimp only [Rd]; rw [role_out]; rfl

/-- What a wait for a whole round brings. -/
theorem rest_bar : bigSep ((Rd m).duties (barCell c) 0 \ ∅) (fun d => (Rd m).payload (barCell c) 0 d) = bigSep Finset.univ fun a : Fin 3 => (barPay c a : sProp 𝕄) := by
  rw [Finset.sdiff_empty, duties_bar]; rfl
theorem rest_single (g : GSem nD τ sig) (r : ℕ) (P : sProp 𝕄) (hd : (Rd m).duties g r = {0}) (hp : (Rd m).payload g r 0 = P) :
    bigSep ((Rd m).duties g r \ ∅) (fun d => (Rd m).payload g r d) = P := by
  rw [Finset.sdiff_empty, hd, bigSep_singleton, hp]
theorem rest_send (x : PX) : bigSep ((Rd m).duties (sendCell c x) 0 \ ∅) (fun d => (Rd m).payload (sendCell c x) 0 d) = sendPay m c x :=
  rest_single m _ _ _ (duties_send m c x) (payload_send m c x 0)
theorem rest_recv (x : PX) : bigSep ((Rd m).duties (recvCell c x) 0 \ ∅) (fun d => (Rd m).payload (recvCell c x) 0 d) = recvPay m c x :=
  rest_single m _ _ _ (duties_recv m c x) (payload_recv m c x 0)
theorem rest_w : bigSep ((Rd m).duties (wCell c) 0 \ ∅) (fun d => (Rd m).payload (wCell c) 0 d) = wcPay m c :=
  rest_single m _ _ _ (duties_w m c) (payload_w m c 0)
theorem rest_out (s : Fin 4) (r : ℕ) (hr : r < 16) : bigSep ((Rd m).duties (outCell c s) r \ ∅) (fun d => (Rd m).payload (outCell c s) r d) = outsPay m c s r :=
  rest_single m _ _ _ (duties_out m c s r hr) (payload_out m c s r 0)

end Sched

/-! ## What a device owes, and the levels of its waits -/

/-- The credit a send owes the neighbour's receive cell. -/
def owe1 (c : Dev nD) (x : PX) : CellTallies nD τ sig Unit := tallyAt (recvCell (nbr c (axisOf x.1 x.2)) x) () (Ncr x.2)
/-- What device `c` still owes once the sends `s` are started. -/
def owed (c : Dev nD) (s : PX → Bool) : CellTallies nD τ sig Unit := ∑ x : PX, if s x then 0 else owe1 c x
/-- What it owes at launch: every send's credit, and one unit to each neighbour's barrier. -/
def oweB (c : Dev nD) (a : Fin 3) : CellTallies nD τ sig Unit := tallyAt (barCell (nbr c a)) () 1
def O₃ (c : Dev nD) : CellTallies nD τ sig Unit := owed c (fun _ => false)
def O₂ (c : Dev nD) : CellTallies nD τ sig Unit := O₃ c + oweB c 2
def O₁ (c : Dev nD) : CellTallies nD τ sig Unit := O₂ c + oweB c 1
def O₀ (c : Dev nD) : CellTallies nD τ sig Unit := O₁ c + oweB c 0

/-- The set of sends with one more. -/
def upd (s : PX → Bool) (x : PX) : PX → Bool := fun y => if y = x then true else s y

theorem owed_upd (c : Dev nD) (s : PX → Bool) (x : PX) (hx : s x = false) : owed c s = owed c (upd s x) + owe1 c x := by
  unfold owed
  rw [← Finset.add_sum_erase Finset.univ _ (Finset.mem_univ x), ← Finset.add_sum_erase Finset.univ (fun y => if upd s x y then 0 else owe1 c y) (Finset.mem_univ x)]
  have h : ∑ y ∈ Finset.univ.erase x, (if upd s x y then 0 else owe1 c y) = ∑ y ∈ Finset.univ.erase x, if s y then 0 else owe1 c y :=
    Finset.sum_congr rfl fun y hy => by
      have : upd s x y = s y := if_neg (Finset.ne_of_mem_erase hy)
      rw [this]
  rw [h]
  have h1 : upd s x x = true := if_pos rfl
  rw [h1, hx]
  simp only [if_true, Bool.false_eq_true, if_false, zero_add]
  exact add_comm _ _

theorem owed_all (c : Dev nD) (s : PX → Bool) (h : ∀ x, s x = true) : owed c s = 0 := by
  unfold owed; exact Finset.sum_eq_zero fun x _ => by rw [h x]; rfl

def L (g : GSem nD τ sig) : Finset Unit := if g.1.2 = .tc then {()} else ∅
/-- Receive cells by their phase, above the barrier; every other cell at the bottom. -/
def lv (g : GSem nD τ sig) (_ : Unit) : ℕ := match g.2 with
  | .reg _ => 1
  | .dma q => match role q with | .recv x => x.2.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (x : PX) : lv (recvCell c x) () = x.2.val + 2 := by dsimp only [lv]; rw [role_recv]
theorem lv_bar (c : Dev nD) : lv (barCell c) () = 1 := rfl
theorem lv_send (c : Dev nD) (x : PX) : lv (sendCell c x) () = 0 := by dsimp only [lv]; rw [role_send]
theorem lv_w (c : Dev nD) : lv (wCell c) () = 0 := by dsimp only [lv]; rw [role_w]
theorem lv_out (c : Dev nD) (s : Fin 4) : lv (outCell c s) () = 0 := by dsimp only [lv]; rw [role_out]

theorem owed_pos {c : Dev nD} {s : PX → Bool} {g : GSem nD τ sig} {u : Unit} (h : 0 < owed c s g u) :
    ∃ x, s x = false ∧ g = recvCell (nbr c (axisOf x.1 x.2)) x := by
  unfold owed at h
  rw [Finset.sum_apply, Finsupp.finset_sum_apply] at h
  obtain ⟨x, -, hx⟩ := Finset.exists_ne_zero_of_sum_ne_zero h.ne'
  refine ⟨x, ?_⟩
  by_cases hs : s x = true
  · rw [hs] at hx; exact absurd rfl hx
  · refine ⟨by simpa using hs, ?_⟩
    rw [if_neg hs] at hx
    unfold owe1 at hx
    rw [tallyAt_apply] at hx
    by_contra hg
    rw [if_neg fun h' => hg h'.1] at hx
    exact hx rfl

theorem O₀_pos {c : Dev nD} {g : GSem nD τ sig} {u : Unit} (h : 0 < O₀ c g u) :
    (∃ x : PX, g = recvCell (nbr c (axisOf x.1 x.2)) x) ∨ ∃ a, g = barCell (nbr c a) := by
  unfold O₀ O₁ O₂ O₃ oweB at h
  rw [Pi.add_apply, Finsupp.add_apply, Pi.add_apply, Finsupp.add_apply, Pi.add_apply, Finsupp.add_apply, tallyAt_apply, tallyAt_apply, tallyAt_apply] at h
  by_contra hn
  rw [not_or] at hn
  have h0 : owed c (fun _ => false) g u = 0 := by
    by_contra h0
    obtain ⟨x, -, hx⟩ := owed_pos (Nat.pos_of_ne_zero h0)
    exact hn.1 ⟨x, hx⟩
  rw [h0, if_neg fun h' => hn.2 ⟨2, h'.1⟩, if_neg fun h' => hn.2 ⟨1, h'.1⟩, if_neg fun h' => hn.2 ⟨0, h'.1⟩] at h
  exact Nat.lt_irrefl 0 h

/-- A device may wait at a cell below every cell it owes. -/
theorem mayWait_of (c : Dev nD) (sm : SemLoc sig) (n : ℕ) (O : CellTallies nD τ sig Unit) (hlv : lv ((c : Thread nD τ), sm) () ≤ n)
    (h : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; unfold L; rw [if_pos (h g u hg).1]; exact Finset.mem_singleton_self _)
    (fun p hp => by rw [Finset.mem_singleton.mp hp]; exact hlv)
    (fun g u hg => (h g u hg).2)

theorem mayWait_owed (c : Dev nD) (sm : SemLoc sig) (n : ℕ) (s : PX → Bool) (hlv : lv ((c : Thread nD τ), sm) () ≤ n)
    (h : ∀ x, s x = false → n < x.2.val + 2) : (levAts L lv : sProp 𝕄) ⊢ MayWait (c : Thread nD τ) sm () (owed c s) :=
  mayWait_of c sm n _ hlv fun g u hg => by
    obtain ⟨x, hx, rfl⟩ := owed_pos hg
    exact ⟨rfl, by rw [lv_recv]; exact h x hx⟩

/-- The staging cell lies below everything owed at launch. -/
theorem mayWait_stage (c : Dev nD) (q : DmaSem sig) (hq : role q = .stage) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by dsimp only [lv]; rw [hq]) fun g u hg => ?_
    rcases O₀_pos hg with ⟨x, rfl⟩ | ⟨a, rfl⟩
    · exact ⟨rfl, by rw [lv_recv]; omega⟩
    · exact ⟨rfl, by rw [lv_bar]; omega⟩
  · rw [MayWait_zero]; iintro -; iempintro

/-! ## The records every device keeps: all cells' invariants, and that every cell has reached round 0 -/

def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

instance records_persistent (K : Dev nD × CI → ℕ) : BI.Persistent (records m K) := by unfold records; infer_instance

theorem pick {I : Type} [Fintype I] [DecidableEq I] (Φ : I → sProp 𝕄) (i : I) : bigSep Finset.univ Φ ⊢ Φ i := bigSep_elim (Finset.mem_univ i)

theorem inv_at (K : Dev nD × CI → ℕ) (ck : Dev nD × CI) : records m K ⊢ cellInv ER (Rd m) (K ck) (kcell ck) := by
  unfold records
  iintro ⟨H, -⟩
  iapply (pick (fun ck : Dev nD × CI => cellInv ER (Rd m) (K ck) (kcell ck)) ck); iexact H
theorem reached_at (K : Dev nD × CI → ℕ) (ck : Dev nD × CI) : records m K ⊢ reached ER (kcell ck) 0 := by
  unfold records
  iintro ⟨-, H⟩
  iapply (pick (fun ck : Dev nD × CI => reached ER (kcell ck) 0) ck); iexact H

end Cert.KProof
end
-- ==== Proof.State.lean ====
/-
# The body's state between two events

Once every device has put its rows in its own slots and passed the barrier, the body is a walk of a small machine: which
sends have been started and taken back, which arrivals have come, how many blocks have been emitted and how many
emissions awaited, and how far the weights are. `State` says what a device holds in each of the machine's states.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a finite type, changed at one point or on a set -/

section Families
variable {I : Type} [Fintype I] [DecidableEq I]

/-- A family that differs from another at one index only: take that index's part out, put the other's in. -/
theorem change_at (Φ Ψ : I → sProp 𝕄) (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr fun j hj => h j (Finset.ne_of_mem_erase hj)]
  iintro ⟨H, HK⟩
  isplitl [H]; · iexact H
  iintro H'; isplitl [H']; · iexact H'
  iexact HK

theorem split_set (S : Finset I) (Φ : I → sProp 𝕄) : bigSep Finset.univ Φ = iprop(bigSep S Φ ∗ bigSep (Finset.univ \ S) Φ) := bigSep_sdiff_split (Finset.subset_univ S)

/-- The members of `a` are those of `b` and, apart from them, `S`. -/
theorem move_set (a b : I → Bool) (S : Finset I) (hS : ∀ x ∈ S, a x = true ∧ b x = false) (hN : ∀ x, x ∉ S → a x = b x) (Φ : I → sProp 𝕄) :
    bigSep Finset.univ (fun x => if a x then Φ x else iprop(emp)) = iprop(bigSep S Φ ∗ bigSep Finset.univ fun x => if b x then Φ x else iprop(emp)) := by
  rw [split_set S, split_set S (fun x => if b x then Φ x else iprop(emp)),
    bigSep_congr (s := S) (Φ := fun x => if a x then Φ x else iprop(emp)) (Ψ := Φ) fun x hx => by rw [(hS x hx).1]; rfl,
    bigSep_congr (s := S) (Φ := fun x => if b x then Φ x else iprop(emp)) (Ψ := fun _ => iprop(emp)) fun x hx => by rw [(hS x hx).2]; rfl,
    bigSep_congr (s := Finset.univ \ S) (Φ := fun x => if a x then Φ x else iprop(emp)) (Ψ := fun x => if b x then Φ x else iprop(emp)) fun x hx => by
      rw [hN x (Finset.mem_sdiff.mp hx).2],
    show bigSep S (fun _ => (iprop(emp) : sProp 𝕄)) = iprop(emp) from bigSep_emp_const S]
  refine congrArg _ ?_
  exact (equiv_iff.mp emp_sep).symm

end Families

/-! ## The machine -/

/-- Which sends are started, which arrivals have come, which sends are taken back; how many emissions are made and how
    many awaited; the weights in flight, landed, or truncated. -/
structure St where
  sent : PX → Bool
  arr : PX → Bool
  done : PX → Bool
  n : ℕ
  w : ℕ
  wt : Fin 3

/-- Group `g` of row part `p` has arrived. -/
def gArr (arr : PX → Bool) (p : Fin 8) : Fin 4 → Bool := ![true, arr (p, 0), arr (p, 1), arr (p, 2)]
/-- The quarter `k` of group `g` of row part `p` is lent to a send in flight. -/
def lent (sent done : PX → Bool) (p : Fin 8) (g k : Fin 4) : Bool := decide (∃ ph : Fin 3, k = ph.castSucc ∧ g.val ≤ ph.val ∧ sent (p, ph) = true ∧ done (p, ph) = false)
/-- The device holds the quarter. -/
def held (sent arr done : PX → Bool) (y : Y) : Bool := gArr arr y.1 y.2.1 && !lent sent done y.1 y.2.1 y.2.2

/-- What an event makes of a state it may happen in. -/
def next (σ : St) : Ev → Option St
  | .send p ph => if σ.sent (p, ph) = false ∧ σ.done (p, ph) = false ∧ ∀ g ∈ sentG ph, gArr σ.arr p g = true then some { σ with sent := upd σ.sent (p, ph) } else none
  | .recv p ph => if σ.arr (p, ph) = false ∧ (∀ x, σ.sent x = false → ph.val < x.2.val) ∧ (∀ ph' : Fin 3, ph.val < ph'.val → σ.sent (p, ph') = false)
      then some { σ with arr := upd σ.arr (p, ph) } else none
  | .sendWait p ph => if σ.sent (p, ph) = true ∧ σ.done (p, ph) = false ∧ ∀ g ∈ sentG ph, gArr σ.arr p g = true then some { σ with done := upd σ.done (p, ph) } else none
  | .wWait => if σ.wt = 0 then some { σ with wt := 1 } else none
  | .wCast => if σ.wt = 1 then some { σ with wt := 2 } else none
  | .emit p j s => if σ.wt = 2 ∧ σ.n < 64 ∧ em σ.n = (p, j) ∧ st σ.n = s ∧ σ.w ≤ σ.n ∧ σ.n < σ.w + 4 ∧ gArr σ.arr p (grp j) = true then some { σ with n := σ.n + 1 } else none
  | .outWait p j s => if σ.w < σ.n ∧ σ.n ≤ σ.w + 4 ∧ σ.n ≤ 64 ∧ em σ.w = (p, j) ∧ st σ.w = s then some { σ with w := σ.w + 1 } else none
  | _ => none

def go (σ : St) : List Ev → Option St
  | [] => some σ
  | e :: es => (next σ e).bind fun σ' => go σ' es

/-- The events after the barrier. -/
def evMain : List Ev :=
  (List.finRange 8).map (fun p => .send p 0) ++ [.wWait, .wCast] ++ (List.range 8).flatMap emission ++ evPhase0 ++ evPhase1 ++ evPhase2 ++ evTail
/-- The events before. -/
def evPre : List Ev := [.wCopy] ++ ((List.finRange 8).map .put ++ [.signal 0, .signal 1, .signal 2, .barWait])

theorem evs_split : evs = evPre ++ evMain := by
  unfold evs evHead evPre evMain
  simp only [List.append_assoc, List.cons_append, List.nil_append]

def σ₀ : St := ⟨fun _ => false, fun _ => false, fun _ => false, 0, 0, 0⟩

/-- Everything sent, arrived, taken back, emitted and awaited. -/
def final (σ : St) : Bool := decide ((∀ x, σ.sent x = true) ∧ (∀ x, σ.arr x = true) ∧ (∀ x, σ.done x = true) ∧ σ.n = 64 ∧ σ.w = 64 ∧ σ.wt = 2)

set_option maxRecDepth 100000 in
/-- The events after the barrier run through, to the end. -/
theorem go_main : ((go σ₀ evMain).map final) = some true := by decide +kernel

/-! ## What a device holds -/

section Holds
variable (c : Dev nD)

def sendRes (sent done : PX → Bool) (x : PX) : sProp 𝕄 :=
  iprop((if sent x then iprop(emp) else iprop(dutyTok ER (sendCell c x) 0 0 ∗ dutyTok ER (recvCell (nbr c (axisOf x.1 x.2)) x) 0 0 ∗ landing (nbr c (axisOf x.1 x.2)) x))
    ∗ (if sent x && !done x then cred (tallyAt (sendCell c x) () (Ncr x.2)) else iprop(emp))
    ∗ atPos ER (sendCell c x) (if done x then 1 else 0) ∅ 0)

def recvRes (arr : PX → Bool) (x : PX) : sProp 𝕄 :=
  iprop((if arr x then iprop(emp) else cred (tallyAt (recvCell c x) () (Ncr x.2))) ∗ atPos ER (recvCell c x) (if arr x then 1 else 0) ∅ 0)

def pieces (sent arr done : PX → Bool) : sProp 𝕄 := bigSep Finset.univ fun y : Y => if held sent arr done y then piece m c y else iprop(emp)

def wtRes : Fin 3 → sProp 𝕄
  | 0 => iprop(cred (tallyAt (wCell c) () NW) ∗ atPos ER (wCell c) 0 ∅ 0 ∗ ∃ f, wbPts c f)
  | 1 => iprop(atPos ER (wCell c) 1 ∅ 0 ∗ wcPay m c ∗ ∃ f, wbPts c f)
  | 2 => iprop(atPos ER (wCell c) 1 ∅ 0 ∗ wcPay m c ∗ wbPts c (wbC m c))

/-- Waits done on stage `s` when `w` are done; emissions made to it when `n` are made. -/
abbrev turns (n : ℕ) (s : Fin 4) : ℕ := (n + 3 - s.val) / 4

def stRes (n w : ℕ) (s : Fin 4) : sProp 𝕄 :=
  iprop(atPos ER (outCell c s) (turns w s) ∅ 0 ∗ reached ER (outCell c s) (turns w s) ∗ (if turns n s = turns w s then iprop(∃ f, sPts c (sS s) f) else iprop(emp)))

def emRes (n w : ℕ) (i : Fin 64) : sProp 𝕄 :=
  if n ≤ i.val then iprop(dutyTok ER (outCell c (st i.val)) (i.val / 4) 0 ∗ ∃ f, oPts c (oS c (em i.val)) f)
  else if w ≤ i.val then cred (tallyAt (outCell c (st i.val)) () NO) else oPts c (oS c (em i.val)) (oC m c)

def Core (σ : St) : sProp 𝕄 :=
  iprop((∃ W, owes (c : Thread nD τ) (owed c σ.sent) W) ∗ bigSep Finset.univ (sendRes c σ.sent σ.done) ∗ bigSep Finset.univ (recvRes c σ.arr)
    ∗ pieces m c σ.sent σ.arr σ.done ∗ wtRes m c σ.wt ∗ bigSep Finset.univ (stRes c σ.n σ.w) ∗ bigSep Finset.univ (emRes m c σ.n σ.w))

def State (K : Dev nD × CI → ℕ) (σ : St) : sProp 𝕄 := iprop(records m K ∗ levAts L lv ∗ Core m c σ)

end Holds

/-! ## Which quarters move -/

theorem mem_sentG {ph : Fin 3} {g : Fin 4} : g ∈ sentG ph ↔ g.val ≤ ph.val := by simp

/-- The quarters a send lends. -/
def lentSet (p : Fin 8) (ph : Fin 3) : Finset Y := (sentG ph).map ⟨fun g => (p, g, ph.castSucc), fun a b h => (Prod.mk.inj (Prod.mk.inj h).2).1⟩
theorem mem_lentSet {p : Fin 8} {ph : Fin 3} {y : Y} : y ∈ lentSet p ph ↔ y.1 = p ∧ y.2.1.val ≤ ph.val ∧ y.2.2 = ph.castSucc := by
  obtain ⟨p', g, k⟩ := y
  unfold lentSet
  rw [Finset.mem_map]
  constructor
  · rintro ⟨g', hg, h⟩
    have h := h.symm
    injection h with h1 h2; injection h2 with h2 h3
    subst h1 h2 h3
    exact ⟨rfl, mem_sentG.1 hg, rfl⟩
  · rintro ⟨rfl, h, rfl⟩
    exact ⟨g, mem_sentG.2 h, rfl⟩
theorem lentSet_sep (c : Dev nD) (p : Fin 8) (ph : Fin 3) : bigSep (lentSet p ph) (piece m c) = (sendPay m c (p, ph) : sProp 𝕄) := by
  unfold lentSet; rw [bigSep_map]; rfl

/-- The quarters an arrival brings. -/
def arrSet (p : Fin 8) (ph : Fin 3) : Finset Y := Finset.univ.map ⟨fun k : Fin 4 => (p, ph.succ, k), fun a b h => (Prod.mk.inj (Prod.mk.inj h).2).2⟩
theorem mem_arrSet {p : Fin 8} {ph : Fin 3} {y : Y} : y ∈ arrSet p ph ↔ y.1 = p ∧ y.2.1 = ph.succ := by
  obtain ⟨p', g, k⟩ := y
  unfold arrSet
  rw [Finset.mem_map]
  constructor
  · rintro ⟨g', -, h⟩
    have h := h.symm
    injection h with h1 h2; injection h2 with h2 h3
    subst h1 h2
    exact ⟨rfl, rfl⟩
  · rintro ⟨h1, h2⟩
    dsimp only at h1 h2
    subst h1 h2
    exact ⟨k, Finset.mem_univ _, rfl⟩

theorem upd_self (s : PX → Bool) (x : PX) : upd s x x = true := if_pos rfl
theorem upd_ne (s : PX → Bool) {x y : PX} (h : y ≠ x) : upd s x y = s y := if_neg h

theorem gArr_succ (arr : PX → Bool) (p : Fin 8) (ph : Fin 3) : gArr arr p ph.succ = arr (p, ph) := by fin_cases ph <;> rfl
theorem gArr_upd (arr : PX → Bool) (p : Fin 8) (ph : Fin 3) (p' : Fin 8) (g : Fin 4) (h : ¬(p' = p ∧ g = ph.succ)) : gArr (upd arr (p, ph)) p' g = gArr arr p' g := by
  rcases Fin.eq_zero_or_eq_succ g with rfl | ⟨ph', rfl⟩
  · rfl
  · rw [gArr_succ, gArr_succ]
    exact upd_ne _ fun he => h ⟨congrArg Prod.fst he, congrArg (Fin.succ ∘ Prod.snd) he⟩

theorem lent_true {sent done : PX → Bool} {p : Fin 8} {g k : Fin 4} : lent sent done p g k = true ↔ ∃ ph : Fin 3, k = ph.castSucc ∧ g.val ≤ ph.val ∧ sent (p, ph) = true ∧ done (p, ph) = false := decide_eq_true_iff
theorem lent_false {sent done : PX → Bool} {p : Fin 8} {g k : Fin 4} : lent sent done p g k = false ↔ ¬∃ ph : Fin 3, k = ph.castSucc ∧ g.val ≤ ph.val ∧ sent (p, ph) = true ∧ done (p, ph) = false := decide_eq_false_iff_not
theorem held_true {sent arr done : PX → Bool} {y : Y} : held sent arr done y = true ↔ gArr arr y.1 y.2.1 = true ∧ lent sent done y.1 y.2.1 y.2.2 = false := by
  unfold held; rw [Bool.and_eq_true, Bool.not_eq_true']

/-- Two states of the sends that agree but at `x` lend the same quarters but those of `x`. -/
theorem lent_congr {sent sent' done done' : PX → Bool} {p : Fin 8} {ph : Fin 3} {y : Y} (hy : y ∉ lentSet p ph)
    (hs : ∀ x, x ≠ (p, ph) → sent' x = sent x) (hd : ∀ x, x ≠ (p, ph) → done' x = done x) :
    lent sent' done' y.1 y.2.1 y.2.2 = lent sent done y.1 y.2.1 y.2.2 := by
  unfold lent
  refine decide_eq_decide.2 (exists_congr fun ph' => and_congr_right fun hk => and_congr_right fun hg => ?_)
  have hne : (y.1, ph') ≠ (p, ph) := fun he => hy (mem_lentSet.2 ⟨congrArg Prod.fst he, by
    have : ph' = ph := congrArg Prod.snd he
    exact ⟨by rw [← this]; exact hg, by rw [← this]; exact hk⟩⟩)
  rw [hs _ hne, hd _ hne]

/-- A send lends its quarters. -/
theorem pieces_send (c : Dev nD) (sent arr done : PX → Bool) (p : Fin 8) (ph : Fin 3) (h1 : sent (p, ph) = false) (h2 : done (p, ph) = false)
    (h3 : ∀ g ∈ sentG ph, gArr arr p g = true) :
    pieces m c sent arr done = (iprop(sendPay m c (p, ph) ∗ pieces m c (upd sent (p, ph)) arr done) : sProp 𝕄) := by
  unfold pieces
  rw [← lentSet_sep]
  refine move_set _ _ (lentSet p ph) (fun y hy => ?_) (fun y hy => ?_) _
  · obtain ⟨e1, e2, e3⟩ := mem_lentSet.1 hy
    constructor
    · refine held_true.2 ⟨by rw [e1]; exact h3 _ (mem_sentG.2 e2), lent_false.2 ?_⟩
      rintro ⟨ph', k1, -, k2, -⟩
      have : ph' = ph := Fin.castSucc_injective _ (k1.symm.trans e3)
      rw [e1, this, h1] at k2; exact absurd k2 (by decide)
    · refine Bool.eq_false_iff.2 fun h => ?_
      refine lent_false.1 (held_true.1 h).2 ⟨ph, e3, e2, ?_, ?_⟩
      · rw [e1]; exact upd_self _ _
      · rw [e1]; exact h2
  · unfold held
    rw [lent_congr (sent' := upd sent (p, ph)) hy (fun x hx => upd_ne _ hx) (fun _ _ => rfl)]

/-- A send taken back returns them. -/
theorem pieces_done (c : Dev nD) (sent arr done : PX → Bool) (p : Fin 8) (ph : Fin 3) (h1 : sent (p, ph) = true) (h2 : done (p, ph) = false)
    (h3 : ∀ g ∈ sentG ph, gArr arr p g = true) :
    pieces m c sent arr (upd done (p, ph)) = (iprop(sendPay m c (p, ph) ∗ pieces m c sent arr done) : sProp 𝕄) := by
  unfold pieces
  rw [← lentSet_sep]
  refine move_set _ _ (lentSet p ph) (fun y hy => ?_) (fun y hy => ?_) _
  · obtain ⟨e1, e2, e3⟩ := mem_lentSet.1 hy
    constructor
    · refine held_true.2 ⟨by rw [e1]; exact h3 _ (mem_sentG.2 e2), lent_false.2 ?_⟩
      rintro ⟨ph', k1, -, -, k2⟩
      have : ph' = ph := Fin.castSucc_injective _ (k1.symm.trans e3)
      rw [e1, this, upd_self] at k2; exact absurd k2 (by decide)
    · refine Bool.eq_false_iff.2 fun h => ?_
      refine lent_false.1 (held_true.1 h).2 ⟨ph, e3, e2, ?_, ?_⟩
      · rw [e1]; exact h1
      · rw [e1]; exact h2
  · unfold held
    rw [lent_congr (done' := upd done (p, ph)) hy (fun _ _ => rfl) (fun x hx => upd_ne _ hx)]

theorem share_eq (ℓ : Loc nD τ sig) (S : Finset (Idx ℓ)) (q : PosShare TreeShare) (f : Buf (Elt F) ℓ) :
    (ℓ ↦[S]{q} f : sProp 𝕄) = iprop((ℓ ↦[S]{q.left} f) ∗ ℓ ↦[S]{q.right} f) :=
  equiv_iff.mp ⟨(pointsTo_share (PosShare.mem_left_op_right q)).1, (pointsTo_share (PosShare.mem_left_op_right q)).2⟩

theorem sep_assoc_eq (A B C : sProp 𝕄) : iprop((A ∗ B) ∗ C) = iprop(A ∗ B ∗ C) := by
  have h1 : iprop((A ∗ B) ∗ C) ⊢ iprop(A ∗ B ∗ C) := Laws.sep_assoc.1
  have h2 : iprop(A ∗ B ∗ C) ⊢ iprop((A ∗ B) ∗ C) := Laws.sep_assoc.2
  exact equiv_iff.mp ⟨h1, h2⟩

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- The whole of a set of slots is its four quarters. -/
theorem quarters (c : Dev nD) (S : Finset S8x8x64x4096.Idx) (f : BC F) : (bPts c S fullShare f : sProp 𝕄) = bigSep Finset.univ fun k : Fin 4 => bPts c S (sh k) f := by
  rw [bigSep_four]
  unfold bPts
  rw [share_eq _ _ fullShare, share_eq _ _ fullShare.left, share_eq _ _ fullShare.right]
  exact sep_assoc_eq _ _ _

/-- An arrival brings the group's four quarters. -/
theorem pieces_recv (c : Dev nD) (sent arr done : PX → Bool) (p : Fin 8) (ph : Fin 3) (h1 : arr (p, ph) = false)
    (h2 : ∀ ph' : Fin 3, ph.val < ph'.val → sent (p, ph') = false) :
    pieces m c sent (upd arr (p, ph)) done = (iprop(recvPay m c (p, ph) ∗ pieces m c sent arr done) : sProp 𝕄) := by
  have e : (recvPay m c (p, ph) : sProp 𝕄) = bigSep (arrSet p ph) (piece m c) := by
    unfold arrSet recvPay; rw [bigSep_map, quarters]; rfl
  rw [e]
  unfold pieces
  refine move_set _ _ (arrSet p ph) (fun y hy => ?_) (fun y hy => ?_) _
  · obtain ⟨e1, e2⟩ := mem_arrSet.1 hy
    constructor
    · refine held_true.2 ⟨by rw [e1, e2, gArr_succ]; exact upd_self _ _, lent_false.2 ?_⟩
      rintro ⟨ph', -, k1, k2, -⟩
      rw [e2] at k1
      rw [e1, h2 ph' (by have : (ph.succ : Fin 4).val = ph.val + 1 := rfl; omega)] at k2
      exact absurd k2 (by decide)
    · refine Bool.eq_false_iff.2 fun h => ?_
      have := (held_true.1 h).1
      rw [e1, e2, gArr_succ, h1] at this
      exact absurd this (by decide)
  · unfold held
    rw [gArr_upd _ _ _ _ _ fun h => hy (mem_arrSet.2 h)]

end Cert.KProof
end
-- ==== Proof.Moves.lean ====
/-
# One event

For every kind of event, what the event does to `State`: from a state it may happen in to the next.
-/
module

public import proofs.«01_k».proof.Proof.State

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c` runs `p` to `Q`. -/
abbrev WP (c : Dev nD) (p : P F) (Q : PUnit → sProp 𝕄) : sProp 𝕄 := wp frame (wpE (defs₀ (F := F)) 𝒱₀ (c : Thread nD τ) none) Set.univ p Q

/-! ## The pieces of memory an event names -/

theorem bPts_dst (c : Dev nD) (x : PX) (f : BC F) :
    (bPts c (gS (x.1, x.2.succ)) fullShare f : sProp 𝕄) = ((vDst x.1 x.2).view.loc (c : Thread nD τ) ↦[(vDst x.1 x.2).view.set]{fullShare} f) := by
  rw [set_dst]; rfl
theorem sendPay_src (c : Dev nD) (x : PX) :
    (sendPay m c x : sProp 𝕄) = ((vSrc x.1 x.2).view.loc (c : Thread nD τ) ↦[(vSrc x.1 x.2).view.set]{sh x.2.castSucc} bC m c) := by
  rw [set_src]
  refine Eq.symm ((pointsTo_biUnion _ _ fun g _ g' _ h => gS_disj _ _ fun he => h (Prod.mk.inj he).2).trans ?_)
  rfl
theorem oPts_out (c : Dev nD) (p j : Fin 8) (f : OC F) :
    (oPts c (oS c (p, j)) f : sProp 𝕄) = ((vOut c p j).view.loc (c : Thread nD τ) ↦[(vOut c p j).view.set]{fullShare} f) := by
  rw [set_out]; rfl
theorem sPts_stage (c : Dev nD) (s : Fin 4) (f : (cc0_scratch3 : Ref sig .tc).ty.Contents (Elt F)) :
    (sPts c (sS s) f : sProp 𝕄) = ((vStage s).view.loc (c : Thread nD τ) ↦[(vStage s).view.set]{fullShare} f) := by
  rw [set_stage]; rfl

theorem hz2 : (![0, 0] : Fin 2 → Nat) = fun _ => 0 := funext fun a => by fin_cases a <;> rfl

variable (c : Dev nD) (K : Dev nD × CI → ℕ)

/-! ## Sends -/

theorem sendRes_unsent {sent done : PX → Bool} {x : PX} (h1 : sent x = false) (h2 : done x = false) :
    (sendRes c sent done x : sProp 𝕄) = iprop((dutyTok ER (sendCell c x) 0 0 ∗ dutyTok ER (recvCell (nbr c (axisOf x.1 x.2)) x) 0 0 ∗ landing (nbr c (axisOf x.1 x.2)) x) ∗ emp ∗ atPos ER (sendCell c x) 0 ∅ 0) := by
  unfold sendRes; rw [h1, h2]; rfl
theorem sendRes_flying {sent done : PX → Bool} {x : PX} (h1 : sent x = true) (h2 : done x = false) :
    (sendRes c sent done x : sProp 𝕄) = iprop(emp ∗ cred (tallyAt (sendCell c x) () (Ncr x.2)) ∗ atPos ER (sendCell c x) 0 ∅ 0) := by
  unfold sendRes; rw [h1, h2]; rfl
theorem sendRes_done {sent done : PX → Bool} {x : PX} (h1 : sent x = true) (h2 : done x = true) :
    (sendRes c sent done x : sProp 𝕄) = iprop(emp ∗ emp ∗ atPos ER (sendCell c x) 1 ∅ 0) := by
  unfold sendRes; rw [h1, h2]; rfl

theorem amount_dst (p : Fin 8) (ph : Fin 3) : (vDst p ph).view.dmaCredit = Ncr ph := by unfold Ncr; rfl
theorem amount_dst' (p : Fin 8) (ph : Fin 3) : (vDst p ph).view.amount (.dma (recvS p ph)) = Ncr ph := amount_dst p ph
theorem amount_src (p : Fin 8) (ph : Fin 3) : (vSrc p ph).view.dmaCredit = Ncr ph := by unfold Ncr; rfl

/-- A send, addressed to the neighbour of its phase: the slots sent go to the send cell, the landing slots, rewritten to
    their intended contents, to the neighbour's receive cell. -/
theorem wp_send_x (x : PX) (fd : BC F) (O₁ O : CellTallies nD τ sig Unit) (hO : O₁ = O + owe1 c x) (W : Waits sig Unit) (k : P F) (Q : PUnit → sProp 𝕄) :
    iprop(records m K ∗ sendPay m c x ∗ bPts (nbr c (axisOf x.1 x.2)) (gS (x.1, x.2.succ)) fullShare fd ∗ owes (c : Thread nD τ) O₁ W
        ∗ dutyTok ER (sendCell c x) 0 0 ∗ dutyTok ER (recvCell (nbr c (axisOf x.1 x.2)) x) 0 0)
      ⊢ iprop(((cred (tallyAt (sendCell c x) () (Ncr x.2)) ∗ owes (c : Thread nD τ) O W) -∗ WP c k Q) -∗ WP c (step c k (.send x.1 x.2)) Q) := by
  rw [sendPay_src, bPts_dst]
  iintro ⟨#HR, Hs, Hd, HO, Ht1, Ht2⟩ Hk
  unfold step
  dsimp only
  iapply (Rounds.wp_send_pointsTo 𝒱₀ ER (Rd m) (c : Thread nD τ) none (κ₁ := K (c, sendI x)) (κ₂ := K (nbr c (axisOf x.1 x.2), recvI x))
    (r₁ := 0) (r₂ := 0) (d₁ := 0) (d₂ := 0) (fd := fd)
    (by rw [duties_send]; exact Finset.mem_singleton_self _) (by rw [duties_recv]; exact Finset.mem_singleton_self _)
    () () (Ncr x.2) (amount_dst' x.1 x.2) (amount_send m c x 0) (amount_recv m (nbr c (axisOf x.1 x.2)) x 0) O hO (W := W)
    (by rw [payload_send, sendPay_src])
    (by
      rw [payload_recv]; unfold recvPay; rw [bPts_dst]
      refine Entails.of_eq (pointsTo_congr fun i hi => ?_)
      rw [set_dst] at hi
      exact send_contents (xst m) c x.1 x.2 fd i hi)) $$ [Hs Hd HO Ht1 Ht2]
  · isplitr; · iapply (inv_at m K (c, sendI x)); iexact HR
    isplitr; · iapply (inv_at m K (nbr c (axisOf x.1 x.2), recvI x)); iexact HR
    isplitl [Hs]; · iexact Hs
    isplitl [Hd]; · iexact Hd
    isplitl [HO]; · iexact HO
    isplitl [Ht1]; · iexact Ht1
    isplitr; · iapply (reached_at m K (c, sendI x)); iexact HR
    isplitl [Ht2]; · iexact Ht2
    iapply (reached_at m K (nbr c (axisOf x.1 x.2), recvI x)); iexact HR
  iexact Hk

theorem move_send (σ : St) (p : Fin 8) (ph : Fin 3) (h1 : σ.sent (p, ph) = false) (h2 : σ.done (p, ph) = false) (h3 : ∀ g ∈ sentG ph, gArr σ.arr p g = true)
    (k : P F) (Q : PUnit → sProp 𝕄) :
    State m c K σ ⊢ iprop((State m c K { σ with sent := upd σ.sent (p, ph) } -∗ WP c k Q) -∗ WP c (step c k (.send p ph)) Q) := by
  unfold State Core
  dsimp only
  rw [pieces_send m c _ _ _ p ph h1 h2 h3]
  iintro ⟨#HR, #HL, ⟨%W, HO⟩, HS, HV, ⟨Hsrc, HP⟩, HW, HT, HE⟩ Hk
  ihave HS' := (change_at (sendRes c σ.sent σ.done) (sendRes c (upd σ.sent (p, ph)) σ.done) (p, ph) (fun j hj => by unfold sendRes; rw [upd_ne _ hj])) $$ HS
  icases HS' with ⟨Hx, HS⟩
  ihave Hx := (Entails.of_eq (sendRes_unsent c h1 h2)) $$ Hx
  unfold landing
  icases Hx with ⟨⟨Ht1, Ht2, ⟨%fd, Hd⟩⟩, -, Hat⟩
  iapply (wp_send_x m c K (p, ph) fd (owed c σ.sent) (owed c (upd σ.sent (p, ph))) (owed_upd c σ.sent (p, ph) h1) W k Q) $$ [HO Hsrc Hd Ht1 Ht2]
  · isplitr; · iexact HR
    isplitl [Hsrc]; · iexact Hsrc
    isplitl [Hd]; · iexact Hd
    isplitl [HO]; · iexact HO
    isplitl [Ht1]; · iexact Ht1
    iexact Ht2
  iintro ⟨Hc, HO⟩
  iapply Hk
  isplitr; · iexact HR
  isplitr; · iexact HL
  isplitl [HO]; · iexists W; iexact HO
  isplitl [HS Hc Hat]
  · iapply HS
    iapply (Entails.of_eq (sendRes_flying c (upd_self σ.sent (p, ph)) h2).symm)
    isplitr; · iempintro
    isplitl [Hc]; · iexact Hc
    iexact Hat
  isplitl [HV]; · iexact HV
  isplitl [HP]; · iexact HP
  isplitl [HW]; · iexact HW
  isplitl [HT]; · iexact HT
  iexact HE

/-- A send's wait: the slots sent come back. -/
theorem move_sendWait (σ : St) (p : Fin 8) (ph : Fin 3) (h1 : σ.sent (p, ph) = true) (h2 : σ.done (p, ph) = false) (h3 : ∀ g ∈ sentG ph, gArr σ.arr p g = true)
    (k : P F) (Q : PUnit → sProp 𝕄) :
    State m c K σ ⊢ iprop((State m c K { σ with done := upd σ.done (p, ph) } -∗ WP c k Q) -∗ WP c (step c k (.sendWait p ph)) Q) := by
  unfold State Core
  dsimp only
  rw [pieces_done m c _ _ _ p ph h1 h2 h3]
  iintro ⟨#HR, #HL, ⟨%W, HO⟩, HS, HV, HP, HW, HT, HE⟩ Hk
  ihave HS' := (change_at (sendRes c σ.sent σ.done) (sendRes c σ.sent (upd σ.done (p, ph))) (p, ph) (fun j hj => by unfold sendRes; rw [upd_ne _ hj])) $$ HS
  icases HS' with ⟨Hx, HS⟩
  ihave Hx := (Entails.of_eq (sendRes_flying c h1 h2)) $$ Hx
  icases Hx with ⟨-, Hc, Hat⟩
  unfold step
  dsimp only
  iapply (Rounds.wp_wait_rest_token 𝒱₀ ER (Rd m) (c : Thread nD τ) none (κ := K (c, sendI (p, ph)))
      (wpE_waitDma2_eq 𝒱₀ (c : Thread nD τ) none Set.univ) (Set.mem_univ _) () (O := owed c σ.sent) (W := W) (R := 0) (m := 0) (T := ∅)
      (by rw [Nat.zero_add]; exact (amount_src p ph).trans (expect_send m c (p, ph)).symm)) $$ [Hc HO Hat]
  · isplitr; · iapply (inv_at m K (c, sendI (p, ph))); iexact HR
    isplitl [Hc]; · rw [amount_src]; iexact Hc
    isplitl [HO]; · iexact HO
    isplitr; · iapply (mayWait_owed c (.dma (sendS p ph)) 0 σ.sent (lv_send c (p, ph)).le (fun x _ => by omega)); iexact HL
    iexact Hat
  iintro ⟨HO, Hat, -, Hpay⟩
  ihave Hp := (Entails.of_eq (rest_send m c (p, ph))) $$ Hpay
  iapply Hk
  isplitr; · iexact HR
  isplitr; · iexact HL
  isplitl [HO]; · iexists _; iexact HO
  isplitl [HS Hat]
  · iapply HS
    iapply (Entails.of_eq (sendRes_done c h1 (upd_self σ.done (p, ph))).symm)
    isplitr; · iempintro
    isplitr; · iempintro
    iexact Hat
  isplitl [HV]; · iexact HV
  isplitl [HP Hp]
  · isplitl [Hp]; · iexact Hp
    iexact HP
  isplitl [HW]; · iexact HW
  isplitl [HT]; · iexact HT
  iexact HE

/-! ## Arrivals -/

theorem recvRes_due {arr : PX → Bool} {x : PX} (h : arr x = false) :
    (recvRes c arr x : sProp 𝕄) = iprop(cred (tallyAt (recvCell c x) () (Ncr x.2)) ∗ atPos ER (recvCell c x) 0 ∅ 0) := by
  unfold recvRes; rw [h]; rfl
theorem recvRes_come {arr : PX → Bool} {x : PX} (h : arr x = true) :
    (recvRes c arr x : sProp 𝕄) = iprop(emp ∗ atPos ER (recvCell c x) 1 ∅ 0) := by
  unfold recvRes; rw [h]; rfl

/-- The wait for an arrival: the slots landed, at their intended contents. -/
theorem move_recv (σ : St) (p : Fin 8) (ph : Fin 3) (h1 : σ.arr (p, ph) = false) (h2 : ∀ x, σ.sent x = false → ph.val < x.2.val)
    (h3 : ∀ ph' : Fin 3, ph.val < ph'.val → σ.sent (p, ph') = false) (k : P F) (Q : PUnit → sProp 𝕄) :
    State m c K σ ⊢ iprop((State m c K { σ with arr := upd σ.arr (p, ph) } -∗ WP c k Q) -∗ WP c (step c k (.recv p ph)) Q) := by
  unfold State Core
  dsimp only
  rw [pieces_recv m c _ _ _ p ph h1 h3]
  iintro ⟨#HR, #HL, ⟨%W, HO⟩, HS, HV, HP, HW, HT, HE⟩ Hk
  ihave HV' := (change_at (recvRes c σ.arr) (recvRes c (upd σ.arr (p, ph))) (p, ph) (fun j hj => by unfold recvRes; rw [upd_ne _ hj])) $$ HV
  icases HV' with ⟨Hx, HV⟩
  ihave Hx := (Entails.of_eq (recvRes_due c h1)) $$ Hx
  icases Hx with ⟨Hc, Hat⟩
  unfold step
  dsimp only
  iapply (Rounds.wp_wait_rest_token 𝒱₀ ER (Rd m) (c : Thread nD τ) none (κ := K (c, recvI (p, ph)))
      (wpE_waitDma2_eq 𝒱₀ (c : Thread nD τ) none Set.univ) (Set.mem_univ _) () (O := owed c σ.sent) (W := W) (R := 0) (m := 0) (T := ∅)
      (by rw [Nat.zero_add]; exact (amount_dst p ph).trans (expect_recv m c (p, ph)).symm)) $$ [Hc HO Hat]
  · isplitr; · iapply (inv_at m K (c, recvI (p, ph))); iexact HR
    isplitl [Hc]; · rw [amount_dst]; iexact Hc
    isplitl [HO]; · iexact HO
    isplitr; · iapply (mayWait_owed c (.dma (recvS p ph)) (ph.val + 2) σ.sent (lv_recv c (p, ph)).le (fun x hx => by have := h2 x hx; omega)); iexact HL
    iexact Hat
  iintro ⟨HO, Hat, -, Hpay⟩
  ihave Hp := (Entails.of_eq (rest_recv m c (p, ph))) $$ Hpay
  iapply Hk
  isplitr; · iexact HR
  isplitr; · iexact HL
  isplitl [HO]; · iexists _; iexact HO
  isplitl [HS]; · iexact HS
  isplitl [HV Hat]
  · iapply HV
    iapply (Entails.of_eq (recvRes_come c (upd_self σ.arr (p, ph))).symm)
    isplitr; · iempintro
    iexact Hat
  isplitl [HP Hp]
  · isplitl [Hp]; · iexact Hp
    iexact HP
  isplitl [HW]; · iexact HW
  isplitl [HT]; · iexact HT
  iexact HE

/-! ## The weights -/

theorem move_wWait (σ : St) (h : σ.wt = 0) (k : P F) (Q : PUnit → sProp 𝕄) :
    State m c K σ ⊢ iprop((State m c K { σ with wt := 1 } -∗ WP c k Q) -∗ WP c (step c k .wWait) Q) := by
  unfold State Core
  dsimp only
  rw [h]
  unfold wtRes
  dsimp only
  iintro ⟨#HR, #HL, ⟨%W, HO⟩, HS, HV, HP, ⟨Hc, Hat, Hwb⟩, HT, HE⟩ Hk
  unfold step
  dsimp only
  iapply (Rounds.wp_wait_rest_token 𝒱₀ ER (Rd m) (c : Thread nD τ) none (κ := K (c, wI))
      (wpE_waitDma2_eq 𝒱₀ (c : Thread nD τ) none Set.univ) (Set.mem_univ _) () (O := owed c σ.sent) (W := W) (R := 0) (m := 0) (T := ∅)
      (by rw [Nat.zero_add, expect_w]; unfold NW; rfl)) $$ [Hc HO Hat]
  · isplitr; · iapply (inv_at m K (c, wI)); iexact HR
    isplitl [Hc]; · unfold NW; iexact Hc
    isplitl [HO]; · iexact HO
    isplitr; · iapply (mayWait_owed c (.dma wS) 0 σ.sent (lv_w c).le (fun x _ => by omega)); iexact HL
    iexact Hat
  iintro ⟨HO, Hat, -, Hpay⟩
  ihave Hp := (Entails.of_eq (rest_w m c)) $$ Hpay
  iapply Hk
  isplitr; · iexact HR
  isplitr; · iexact HL
  isplitl [HO]; · iexists _; iexact HO
  isplitl [HS]; · iexact HS
  isplitl [HV]; · iexact HV
  isplitl [HP]; · iexact HP
  isplitl [Hat Hp Hwb]
  · isplitl [Hat]; · iexact Hat
    isplitl [Hp]; · iexact Hp
    iexact Hwb
  isplitl [HT]; · iexact HT
  iexact HE

/-- The weights truncated. -/
theorem move_wCast (σ : St) (h : σ.wt = 1) (k : P F) (Q : PUnit → sProp 𝕄) :
    State m c K σ ⊢ iprop((State m c K { σ with wt := 2 } -∗ WP c k Q) -∗ WP c (step c k .wCast) Q) := by
  unfold State Core
  dsimp only
  rw [h]
  unfold wtRes wcPay wbPts wfPts
  dsimp only
  iintro ⟨#HR, #HL, HO, HS, HV, HP, ⟨Hat, ⟨Hwf, Hw⟩, ⟨%f, Hwb⟩⟩, HT, HE⟩ Hk
  unfold step
  dsimp only
  iapply (wp_load 𝒱₀ (c : Thread nD τ) none Set.univ (m := mWf) (Finset.subset_univ _)) $$ Hwf; iintro Hwf
  iapply (wp_load 𝒱₀ (c : Thread nD τ) none Set.univ (m := mWb) (Finset.subset_univ _)) $$ Hwb; iintro Hwb
  iapply (wp_store 𝒱₀ (c : Thread nD τ) none Set.univ (m := mWb) (r := rW) (Mk := Finset.univ) (Finset.subset_univ _)) $$ Hwb; iintro Hwb
  have e1 : mWf.view.readAt (Elt F) rW.toLoadRect (wIn m c) = wIn m c := Memref.readAt_unit_zero (Elt F) cc0_scratch1 hz2 _ _
  have e2 (g : (cc0_scratch2 : Ref sig .tc).ty.Contents (Elt F)) : (mWb.access rW).write (Elt F) f g Finset.univ = g := Memref.write_access_unit_zero_univ (Elt F) cc0_scratch2 hz2 _ f g
  rw [e1, e2]
  iapply Hk
  isplitr; · iexact HR
  isplitr; · iexact HL
  isplitl [HO]; · iexact HO
  isplitl [HS]; · iexact HS
  isplitl [HV]; · iexact HV
  isplitl [HP]; · iexact HP
  isplitl [Hat Hwf Hw Hwb]
  · isplitl [Hat]; · iexact Hat
    isplitl [Hwf Hw]
    · isplitl [Hwf]; · iexact Hwf
      iexact Hw
    iexact Hwb
  isplitl [HT]; · iexact HT
  iexact HE

end Cert.KProof
end
-- ==== Proof.Emit.lean ====
/-
# Emissions, and the run of the machine

An emission multiplies a slot by the weights into a stage and starts the stage's copy to its rows of the result; four
emissions later the copy is awaited. With these, every event of the body after the barrier takes `State` to `State`.
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Turns of the stages -/

theorem st_val (n : ℕ) : (st n).val = n % 4 := rfl
theorem turns_ne (n : ℕ) (s : Fin 4) (h : s ≠ st n) : turns (n + 1) s = turns n s := by
  have h' : s.val ≠ n % 4 := fun he => h (Fin.ext he)
  have := s.isLt
  unfold turns; omega
theorem turns_of (n w : ℕ) (h1 : w ≤ n) (h2 : n < w + 4) : turns w (st n) = n / 4 := by
  unfold turns; rw [st_val]; omega
theorem turns_next (n w : ℕ) (h1 : w < n) (h2 : n ≤ w + 4) : turns n (st w) = w / 4 + 1 := by
  unfold turns; rw [st_val]; omega

variable (c : Dev nD) (K : Dev nD × CI → ℕ)

theorem stRes_free {n w r : ℕ} {s : Fin 4} (h1 : turns n s = r) (h2 : turns w s = r) :
    (stRes c n w s : sProp 𝕄) = iprop(atPos ER (outCell c s) r ∅ 0 ∗ reached ER (outCell c s) r ∗ ∃ f, sPts c (sS s) f) := by
  unfold stRes; rw [h1, h2, if_pos rfl]
theorem stRes_busy {n w r : ℕ} {s : Fin 4} (h1 : turns n s = r + 1) (h2 : turns w s = r) :
    (stRes c n w s : sProp 𝕄) = iprop(atPos ER (outCell c s) r ∅ 0 ∗ reached ER (outCell c s) r ∗ emp) := by
  unfold stRes; rw [h1, h2, if_neg (by omega)]

theorem emRes_todo {n w : ℕ} {i : Fin 64} (h : n ≤ i.val) :
    (emRes m c n w i : sProp 𝕄) = iprop(dutyTok ER (outCell c (st i.val)) (i.val / 4) 0 ∗ ∃ f, oPts c (oS c (em i.val)) f) := by
  unfold emRes; rw [if_pos h]
theorem emRes_flying {n w : ℕ} {i : Fin 64} (h : i.val < n) (h' : w ≤ i.val) : (emRes m c n w i : sProp 𝕄) = cred (tallyAt (outCell c (st i.val)) () NO) := by
  unfold emRes; rw [if_neg (by omega), if_pos h']
theorem emRes_out {n w : ℕ} {i : Fin 64} (h : i.val < n) (h' : i.val < w) : (emRes m c n w i : sProp 𝕄) = oPts c (oS c (em i.val)) (oC m c) := by
  unfold emRes; rw [if_neg (by omega), if_neg (by omega)]

theorem outsPay_em (i : ℕ) : (outsPay m c (st i) (i / 4) : sProp 𝕄) = iprop(oPts c (oS c (em i)) (oC m c) ∗ ∃ f, sPts c (sS (st i)) f) := by
  have e : 4 * (i / 4) + (st i).val = i := Nat.div_add_mod i 4
  unfold outsPay; rw [e]

theorem amount_vOut (p j : Fin 8) (s : Fin 4) : (vOut c p j).view.amount (.dma (outS s)) = NO := by unfold NO; rfl
theorem amount_vOut' (p j : Fin 8) : (vOut c p j).view.dmaCredit = NO := by unfold NO; rfl

/-- A quarter held, taken out of the pieces and put back. -/
theorem pieces_at {sent arr done : PX → Bool} {y : Y} (h : held sent arr done y = true) :
    (pieces m c sent arr done : sProp 𝕄) ⊢ iprop(piece m c y ∗ (piece m c y -∗ pieces m c sent arr done)) := by
  have e : (if held sent arr done y then piece m c y else iprop(emp)) = (piece m c y : sProp 𝕄) := by rw [h]; rfl
  have := change_at (F := F) (fun y => if held sent arr done y then piece m c y else iprop(emp)) (fun y => if held sent arr done y then piece m c y else iprop(emp)) y (fun _ _ => rfl)
  rw [e] at this
  exact this

theorem held_load {sent arr done : PX → Bool} {p : Fin 8} {g : Fin 4} (h : gArr arr p g = true) : held sent arr done (p, g, 3) = true :=
  held_true.2 ⟨h, lent_false.2 fun ⟨ph, h3, _⟩ => by
    have h4 : (3 : ℕ) = ph.val := congrArg Fin.val h3
    have := ph.isLt
    omega⟩

/-- The rows of the result a stage's copy writes are at their intended contents. -/
theorem emit_pts (p j : Fin 8) (s : Fin 4) (f : (cc0_scratch3 : Ref sig .tc).ty.Contents (Elt F)) (fo : OC F) :
    ((vOut c p j).view.loc (c : Thread nD τ) ↦[(vOut c p j).view.set]{fullShare} (vOut c p j).view.write (Elt F) fo
        ((vStage s).view.read (Elt F) ((mS.access (rStage s)).write (Elt F) f (outPay (slotBlk (xst m (org c p j)) p) (wbC m c)) Finset.univ)) Finset.univ : sProp 𝕄)
      = oPts c (oS c (p, j)) (oC m c) := by
  rw [oPts_out]
  refine pointsTo_congr fun x hx => ?_
  rw [set_out] at hx
  exact emit_contents (xst m) (wbC m c) c p j s f fo x hx

/-- The emission of slot `j` of row part `p` through a free stage. -/
theorem wp_emit (i : ℕ) (hi : i < 64) (p j : Fin 8) (he : em i = (p, j)) (k : P F) (Q : PUnit → sProp 𝕄) :
    iprop(records m K ∗ piece m c (p, grp j, 3) ∗ wbPts c (wbC m c) ∗ (∃ f, sPts c (sS (st i)) f) ∗ (∃ f, oPts c (oS c (em i)) f)
        ∗ dutyTok ER (outCell c (st i)) (i / 4) 0 ∗ reached ER (outCell c (st i)) (i / 4))
      ⊢ iprop(((piece m c (p, grp j, 3) ∗ wbPts c (wbC m c) ∗ cred (tallyAt (outCell c (st i)) () NO)) -∗ WP c k Q) -∗ WP c (step c k (.emit p j (st i))) Q) := by
  rw [he]
  unfold piece wbPts bPts
  dsimp only
  iintro ⟨#HR, Hb, Hwb, ⟨%f, Hs⟩, ⟨%fo, Ho⟩, Ht, Hr⟩ Hk
  unfold step
  dsimp only
  have e1 : mB.view.readAt (Elt F) (rSlot p j).toLoadRect (bC m c) = slotBlk (xst m (org c p j)) p := load_contents (xst m) c p j
  have e2 : mWb.view.readAt (Elt F) rW.toLoadRect (wbC m c) = wbC m c := Memref.readAt_unit_zero (Elt F) cc0_scratch2 hz2 _ _
  have hst : (mS.access (rStage (st i))).set = sS (st i) := View.set_slice_whole _ _
  iapply (wp_load 𝒱₀ (c : Thread nD τ) none Set.univ (m := mB) (by have h := (set_slot p j).subset.trans (slot_sub p j); rwa [View.set_slice] at h)) $$ Hb; iintro Hb
  iapply (wp_load 𝒱₀ (c : Thread nD τ) none Set.univ (m := mWb) (Finset.subset_univ _)) $$ Hwb; iintro Hwb
  rw [e1, e2]
  unfold sPts
  iapply (wp_load 𝒱₀ (c : Thread nD τ) none Set.univ (m := mS) (by have h := hst.subset; rwa [View.set_slice] at h)) $$ Hs; iintro Hs
  iapply (wp_store 𝒱₀ (c : Thread nD τ) none Set.univ (m := mS) (r := rStage (st i)) (Mk := Finset.univ) hst.subset) $$ Hs; iintro Hs
  ihave Hs := (Entails.of_eq (sPts_stage c (st i) ((mS.access (rStage (st i))).write (Elt F) f (outPay (slotBlk (xst m (org c p j)) p) (wbC m c)) Finset.univ))) $$ [Hs]
  · unfold sPts; iexact Hs
  ihave Ho := (Entails.of_eq (oPts_out c p j fo)) $$ Ho
  iapply (Rounds.wp_copy_pointsTo 𝒱₀ ER (Rd m) (c : Thread nD τ) none (κ := K (c, outI (st i))) (r := i / 4) (d := 0)
    (by rw [duties_out m c (st i) (i / 4) (by omega)]; exact Finset.mem_singleton_self _) () NO (amount_vOut c p j (st i)) (amount_out m c (st i) (i / 4) 0)
    (by
      rw [payload_out, outsPay_em, he]
      iintro ⟨Ho, Hs⟩
      isplitl [Ho]
      · iapply (Entails.of_eq (emit_pts m c p j (st i) f fo)); iexact Ho
      · iexists _; iapply (Entails.of_eq (sPts_stage c (st i) _).symm); iexact Hs)) $$ [Hs Ho Ht Hr]
  · isplitr; · iapply (inv_at m K (c, outI (st i))); iexact HR
    isplitl [Hs]; · iexact Hs
    isplitl [Ho]; · iexact Ho
    isplitl [Ht]; · iexact Ht
    iexact Hr
  iintro Hc
  iapply Hk
  isplitl [Hb]; · iexact Hb
  isplitl [Hwb]; · iexact Hwb
  iexact Hc

theorem move_emit (σ : St) (i : Fin 64) (hn : σ.n = i.val) (p j : Fin 8) (he : em i.val = (p, j)) (hw : σ.wt = 2) (h1 : σ.w ≤ i.val) (h2 : i.val < σ.w + 4)
    (h3 : gArr σ.arr p (grp j) = true) (k : P F) (Q : PUnit → sProp 𝕄) :
    State m c K σ ⊢ iprop((State m c K { σ with n := σ.n + 1 } -∗ WP c k Q) -∗ WP c (step c k (.emit p j (st i.val))) Q) := by
  unfold State Core
  dsimp only
  rw [hn, hw]
  unfold wtRes
  dsimp only
  iintro ⟨#HR, #HL, HO, HS, HV, HP, ⟨Hat, Hwc, Hwb⟩, HT, HE⟩ Hk
  ihave HT' := (change_at (stRes c i.val σ.w) (stRes c (i.val + 1) σ.w) (st i.val) (fun s hs => by unfold stRes; rw [turns_ne _ _ hs])) $$ HT
  icases HT' with ⟨Hst, HT⟩
  ihave Hst := (Entails.of_eq (stRes_free c (turns_of i.val i.val le_rfl (by omega)) (turns_of i.val σ.w h1 h2))) $$ Hst
  icases Hst with ⟨Hp, #Hr, Hs⟩
  ihave HE' := (change_at (emRes m c i.val σ.w) (emRes m c (i.val + 1) σ.w) i (fun x hx => by
    have hx' : x.val ≠ i.val := fun h => hx (Fin.ext h)
    unfold emRes
    by_cases h : i.val ≤ x.val
    · rw [if_pos h, if_pos (show i.val + 1 ≤ x.val by omega)]
    · rw [if_neg h, if_neg (show ¬ i.val + 1 ≤ x.val by omega)])) $$ HE
  icases HE' with ⟨Hem, HE⟩
  ihave Hem := (Entails.of_eq (emRes_todo m c (w := σ.w) (le_refl i.val))) $$ Hem
  icases Hem with ⟨Ht, Ho⟩
  ihave HP' := (pieces_at m c (held_load h3)) $$ HP
  icases HP' with ⟨Hb, HP⟩
  iapply (wp_emit m c K i.val i.isLt p j he k Q) $$ [Hb Hwb Hs Ho Ht]
  · isplitr; · iexact HR
    isplitl [Hb]; · iexact Hb
    isplitl [Hwb]; · iexact Hwb
    isplitl [Hs]; · iexact Hs
    isplitl [Ho]; · iexact Ho
    isplitl [Ht]; · iexact Ht
    iexact Hr
  iintro ⟨Hb, Hwb, Hc⟩
  iapply Hk
  isplitr; · iexact HR
  isplitr; · iexact HL
  isplitl [HO]; · iexact HO
  isplitl [HS]; · iexact HS
  isplitl [HV]; · iexact HV
  isplitl [HP Hb]; · iapply HP; iexact Hb
  isplitl [Hat Hwc Hwb]
  · isplitl [Hat]; · iexact Hat
    isplitl [Hwc]; · iexact Hwc
    iexact Hwb
  isplitl [HT Hp]
  · iapply HT
    iapply (Entails.of_eq (stRes_busy c (turns_next (i.val + 1) i.val (by omega) (by omega)) (turns_of i.val σ.w h1 h2)).symm)
    isplitl [Hp]; · iexact Hp
    isplitr; · iexact Hr
    iempintro
  · iapply HE
    iapply (Entails.of_eq (emRes_flying m c (Nat.lt_succ_self i.val) h1).symm); iexact Hc

/-- A copy out awaited: its rows of the result at their intended contents, the stage free again. -/
theorem move_outWait (σ : St) (i : Fin 64) (hw : σ.w = i.val) (p j : Fin 8) (he : em i.val = (p, j)) (h1 : i.val < σ.n) (h2 : σ.n ≤ i.val + 4)
    (k : P F) (Q : PUnit → sProp 𝕄) :
    State m c K σ ⊢ iprop((State m c K { σ with w := σ.w + 1 } -∗ WP c k Q) -∗ WP c (step c k (.outWait p j (st i.val))) Q) := by
  unfold State Core
  dsimp only
  rw [hw]
  iintro ⟨#HR, #HL, ⟨%W, HO⟩, HS, HV, HP, HW, HT, HE⟩ Hk
  ihave HT' := (change_at (stRes c σ.n i.val) (stRes c σ.n (i.val + 1)) (st i.val) (fun s hs => by unfold stRes; rw [turns_ne _ _ hs])) $$ HT
  icases HT' with ⟨Hst, HT⟩
  ihave Hst := (Entails.of_eq (stRes_busy c (turns_next σ.n i.val h1 h2) (turns_of i.val i.val le_rfl (by omega)))) $$ Hst
  icases Hst with ⟨Hp, -, -⟩
  ihave HE' := (change_at (emRes m c σ.n i.val) (emRes m c σ.n (i.val + 1)) i (fun x hx => by
    have hx' : x.val ≠ i.val := fun h => hx (Fin.ext h)
    unfold emRes
    by_cases h0 : σ.n ≤ x.val
    · rw [if_pos h0, if_pos h0]
    rw [if_neg h0, if_neg h0]
    by_cases h : i.val ≤ x.val
    · rw [if_pos h, if_pos (by omega)]
    · rw [if_neg h, if_neg (by omega)])) $$ HE
  icases HE' with ⟨Hem, HE⟩
  ihave Hc := (Entails.of_eq (emRes_flying m c h1 (le_refl i.val))) $$ Hem
  unfold step
  dsimp only
  iapply (Rounds.wp_wait_rest_token 𝒱₀ ER (Rd m) (c : Thread nD τ) none (κ := K (c, outI (st i.val)))
      (wpE_waitDma2_eq 𝒱₀ (c : Thread nD τ) none Set.univ) (Set.mem_univ _) () (O := owed c σ.sent) (W := W) (R := i.val / 4) (m := 0) (T := ∅)
      (by rw [Nat.zero_add]; exact (amount_vOut' c p j).trans (expect_out m c (st i.val) (i.val / 4) (by have := i.isLt; omega)).symm)) $$ [Hc HO Hp]
  · isplitr; · iapply (inv_at m K (c, outI (st i.val))); iexact HR
    isplitl [Hc]; · rw [amount_vOut']; iexact Hc
    isplitl [HO]; · iexact HO
    isplitr; · iapply (mayWait_owed c (.dma (outS (st i.val))) 0 σ.sent (lv_out c (st i.val)).le (fun x _ => by omega)); iexact HL
    iexact Hp
  iintro ⟨HO, Hp, Hr, Hpay⟩
  ihave Hpay := (Entails.of_eq ((rest_out m c (st i.val) (i.val / 4) (by have := i.isLt; omega)).trans (outsPay_em m c i.val))) $$ Hpay
  icases Hpay with ⟨Ho, Hs⟩
  iapply Hk
  isplitr; · iexact HR
  isplitr; · iexact HL
  isplitl [HO]; · iexists _; iexact HO
  isplitl [HS]; · iexact HS
  isplitl [HV]; · iexact HV
  isplitl [HP]; · iexact HP
  isplitl [HW]; · iexact HW
  isplitl [HT Hp Hr Hs]
  · iapply HT
    iapply (Entails.of_eq (stRes_free c (turns_next σ.n i.val h1 h2) (turns_next (i.val + 1) i.val (by omega) (by omega))).symm)
    isplitl [Hp]; · iexact Hp
    isplitl [Hr]; · iexact Hr
    iexact Hs
  · iapply HE
    iapply (Entails.of_eq (emRes_out m c h1 (Nat.lt_succ_self i.val)).symm); iexact Ho

/-! ## The run -/

/-- Every event the machine takes takes the state along. -/
theorem move (e : Ev) (σ σ' : St) (h : next σ e = some σ') (k : P F) (Q : PUnit → sProp 𝕄) :
    State m c K σ ⊢ iprop((State m c K σ' -∗ WP c k Q) -∗ WP c (step c k e) Q) := by
  cases e with
  | wCopy => exact absurd h (by simp [next])
  | put p => exact absurd h (by simp [next])
  | signal a => exact absurd h (by simp [next])
  | barWait => exact absurd h (by simp [next])
  | send p ph =>
    unfold next at h; dsimp only at h
    split at h
    · next hc => rw [← Option.some.inj h]; exact move_send m c K σ p ph hc.1 hc.2.1 hc.2.2 k Q
    · exact absurd h (by simp)
  | wWait =>
    unfold next at h; dsimp only at h
    split at h
    · next hc => rw [← Option.some.inj h]; exact move_wWait m c K σ hc k Q
    · exact absurd h (by simp)
  | wCast =>
    unfold next at h; dsimp only at h
    split at h
    · next hc => rw [← Option.some.inj h]; exact move_wCast m c K σ hc k Q
    · exact absurd h (by simp)
  | emit p j s =>
    unfold next at h; dsimp only at h
    split at h
    · next hc =>
      obtain ⟨c1, c2, c3, c4, c5, c6, c7⟩ := hc
      rw [← Option.some.inj h, ← c4]
      exact move_emit m c K σ ⟨σ.n, c2⟩ rfl p j c3 c1 c5 c6 c7 k Q
    · exact absurd h (by simp)
  | outWait p j s =>
    unfold next at h; dsimp only at h
    split at h
    · next hc =>
      obtain ⟨c1, c2, c3, c4, c5⟩ := hc
      rw [← Option.some.inj h, ← c5]
      exact move_outWait m c K σ ⟨σ.w, by omega⟩ rfl p j c4 c1 c2 k Q
    · exact absurd h (by simp)
  | recv p ph =>
    unfold next at h; dsimp only at h
    split at h
    · next hc => rw [← Option.some.inj h]; exact move_recv m c K σ p ph hc.1 hc.2.1 hc.2.2 k Q
    · exact absurd h (by simp)
  | sendWait p ph =>
    unfold next at h; dsimp only at h
    split at h
    · next hc => rw [← Option.some.inj h]; exact move_sendWait m c K σ p ph hc.1 hc.2.1 hc.2.2 k Q
    · exact absurd h (by simp)

/-- A list of events the machine runs through. -/
theorem moves (es : List Ev) (σ σ' : St) (h : go σ es = some σ') (Q : PUnit → sProp 𝕄) :
    State m c K σ ⊢ iprop((State m c K σ' -∗ |={Set.univ}=> Q ⟨⟩) -∗ WP c (run c es) Q) := by
  induction es generalizing σ with
  | nil =>
    rw [← Option.some.inj h]
    unfold run
    iintro HS Hk
    unfold WP
    rw [wp_ret]
    iapply Hk; iexact HS
  | cons e es ih =>
    unfold go at h
    obtain ⟨σ₁, h1, h2⟩ := Option.bind_eq_some_iff.mp h
    unfold run
    iintro HS Hk
    iapply (move m c K e σ σ₁ h1 (run c es) Q) $$ HS
    iintro HS
    iapply (ih σ₁ h2) $$ HS
    iexact Hk

end Cert.KProof
end
-- ==== Proof.Head.lean ====
/-
# The body up to the barrier

Every device starts the copy of its weights, puts its rows in its own slots, tells its three neighbours that their landing
slots are free, and waits for the three to tell it the same. It then holds `State` of the start of the machine.
-/
module

public import proofs.«01_k».proof.Proof.Emit

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD) (K : Dev nD × CI → ℕ)

/-! ## Regrouping -/

/-- Row parts and axes are row parts and phases. -/
def axPh : Fin 3 × Fin 8 ≃ PX where
  toFun y := (y.2, phOf y.2 y.1)
  invFun x := (axisOf x.1 x.2, x.1)
  left_inv := by decide
  right_inv := by decide

theorem axis_phOf (p : Fin 8) (a : Fin 3) : axisOf p (phOf p a) = a := by revert p a; decide

theorem by_axis (Ψ : Fin 3 → PX → sProp 𝕄) :
    (bigSep Finset.univ fun a : Fin 3 => bigSep Finset.univ fun p : Fin 8 => Ψ a (p, phOf p a)) = bigSep Finset.univ fun x : PX => Ψ (axisOf x.1 x.2) x := by
  rw [bigSep_univ_equiv axPh, bigSep_univ_prod]
  refine bigSep_congr fun a _ => bigSep_congr fun p _ => ?_
  show Ψ a (p, phOf p a) = Ψ (axisOf p (phOf p a)) (p, phOf p a)
  rw [axis_phOf]

/-- A family over row parts and groups: group 0, and the groups the phases bring. -/
theorem by_group (Φ : Fin 8 × Fin 4 → sProp 𝕄) :
    bigSep Finset.univ Φ = iprop((bigSep Finset.univ fun p : Fin 8 => Φ (p, 0)) ∗ bigSep Finset.univ fun x : PX => Φ (x.1, x.2.succ)) := by
  rw [bigSep_univ_prod, bigSep_univ_prod (fun x : PX => Φ (x.1, x.2.succ)), ← bigSep_sep']
  refine bigSep_congr fun p _ => ?_
  rw [bigSep_four, bigSep_three]
  rfl

/-- The slot buffer, by row part and group. -/
theorem bPts_groups (q : PosShare TreeShare) (f : BC F) : (bPts c Finset.univ q f : sProp 𝕄) = bigSep Finset.univ fun x : Fin 8 × Fin 4 => bPts c (gS x) q f := by
  unfold bPts
  rw [← pointsTo_biUnion _ _ (fun x _ y _ h => gS_disj x y h), gS_cover]
theorem sPts_stages (f : (cc0_scratch3 : Ref sig .tc).ty.Contents (Elt F)) : (sPts c Finset.univ f : sProp 𝕄) = bigSep Finset.univ fun s : Fin 4 => sPts c (sS s) f := by
  unfold sPts
  rw [← pointsTo_biUnion _ _ (fun x _ y _ h => sS_disj x y h), sS_cover]
/-- The emissions are the row parts and slots. -/
theorem em_bij : Function.Bijective fun i : Fin 64 => em i.val :=
  (Fintype.bijective_iff_injective_and_card _).mpr ⟨by decide +kernel, rfl⟩
theorem oPts_ems (f : OC F) : (oPts c Finset.univ f : sProp 𝕄) = bigSep Finset.univ fun i : Fin 64 => oPts c (oS c (em i.val)) f := by
  have h : (oPts c Finset.univ f : sProp 𝕄) = bigSep Finset.univ fun x : Fin 8 × Fin 8 => oPts c (oS c x) f := by
    unfold oPts
    rw [← pointsTo_biUnion _ _ (fun x _ y _ h => oS_disj c x y h), oS_cover]
  rw [h, bigSep_univ_equiv (Equiv.ofBijective _ em_bij)]
  rfl

theorem bigSep_any {I A : Type} [DecidableEq I] (S : Finset I) (Φ : I → A → sProp 𝕄) (f : A) : bigSep S (fun i => Φ i f) ⊢ bigSep S fun i => iprop(∃ f, Φ i f) :=
  bigSep_mono fun i _ => by
    show Φ i f ⊢ iprop(∃ f, Φ i f)
    iintro H; iexists f; iexact H

/-! ## The events before the barrier -/

theorem wp_wCopy (f : (cc0_scratch1 : Ref sig .tc).ty.Contents (Elt F)) (k : P F) (Q : PUnit → sProp 𝕄) :
    iprop(records m K ∗ wPts c (wIn m c) ∗ wfPts c f ∗ dutyTok ER (wCell c) 0 0)
      ⊢ iprop((cred (tallyAt (wCell c) () NW) -∗ WP c k Q) -∗ WP c (step c k .wCopy) Q) := by
  iintro ⟨#HR, Hw, Hf, Ht⟩ Hk
  unfold step
  dsimp only
  have ew : ∀ g, (wPts c g : sProp 𝕄) = (mW.view.loc (c : Thread nD τ) ↦[mW.view.set]{fullShare} g) := fun g => by
    unfold wPts; rw [show mW.view.set = Finset.univ from View.set_whole _]
  have ef : ∀ g, (wfPts c g : sProp 𝕄) = (mWf.view.loc (c : Thread nD τ) ↦[mWf.view.set]{fullShare} g) := fun g => by
    unfold wfPts; rw [show mWf.view.set = Finset.univ from View.set_whole _]
  ihave Hw := (Entails.of_eq (ew _)) $$ Hw
  ihave Hf := (Entails.of_eq (ef _)) $$ Hf
  iapply (Rounds.wp_copy_pointsTo 𝒱₀ ER (Rd m) (c : Thread nD τ) none (κ := K (c, wI)) (r := 0) (d := 0)
    (by rw [duties_w]; exact Finset.mem_singleton_self _) () NW (by unfold NW; rfl) (amount_w m c 0)
    (by
      rw [payload_w]; unfold wcPay
      rw [ew, ef]
      have e : mWf.view.write (Elt F) f (mW.view.read (Elt F) (wIn m c)) Finset.univ = wIn m c := by
        rw [View.read_whole, View.write_whole_univ]
      rw [e])) $$ [Hw Hf Ht]
  · isplitr; · iapply (inv_at m K (c, wI)); iexact HR
    isplitl [Hw]; · iexact Hw
    isplitl [Hf]; · iexact Hf
    isplitl [Ht]; · iexact Ht
    iapply (reached_at m K (c, wI)); iexact HR
  iexact Hk

/-- Slot 0 of row part `p`, at any contents or at its intended ones. -/
def slot0 (b : Bool) (p : Fin 8) : sProp 𝕄 := if b then bPts c (gS (p, 0)) fullShare (bC m c) else iprop(∃ f, bPts c (gS (p, 0)) fullShare f)

theorem slot0_any (b : Bool) (p : Fin 8) : (slot0 m c b p : sProp 𝕄) ⊢ iprop(∃ f, bPts c (gS (p, 0)) fullShare f) := by
  unfold slot0
  cases b
  · exact .rfl
  · show bPts c (gS (p, 0)) fullShare (bC m c) ⊢ _
    iintro H; iexists _; iexact H

theorem wp_put (p : Fin 8) (f : BC F) (k : P F) (Q : PUnit → sProp 𝕄) :
    iprop(xPts c (xst m c) ∗ bPts c (gS (p, 0)) fullShare f)
      ⊢ iprop(((xPts c (xst m c) ∗ bPts c (gS (p, 0)) fullShare (bC m c)) -∗ WP c k Q) -∗ WP c (step c k (.put p)) Q) := by
  unfold xPts bPts
  iintro ⟨Hx, Hb⟩ Hk
  unfold step
  dsimp only
  have hs : (mB.access (rSlot p 0)).set ⊆ gS (p, 0) := ((set_slot p 0).trans (slot0_set p)).subset
  iapply (wp_load 𝒱₀ (c : Thread nD τ) none Set.univ (m := mX) (Finset.subset_univ _)) $$ Hx; iintro Hx
  iapply (wp_load 𝒱₀ (c : Thread nD τ) none Set.univ (m := mB) (by have h := hs; rwa [View.set_slice] at h)) $$ Hb; iintro Hb
  iapply (wp_store 𝒱₀ (c : Thread nD τ) none Set.univ (m := mB) (r := rSlot p 0) (Mk := Finset.univ) hs) $$ Hb; iintro Hb
  iapply Hk
  isplitl [Hx]; · iexact Hx
  iapply (Entails.of_eq (pointsTo_congr (put_contents (xst m) c p (org_zero c p) f))); iexact Hb

theorem run_cons (d : Dev nD) (e : Ev) (es : List Ev) : (run d (e :: es) : P F) = step d (run d es) e := rfl

theorem put_run (l : List (Fin 8)) (d : Fin 8 → Bool) (es : List Ev) (Q : PUnit → sProp 𝕄) :
    iprop(xPts c (xst m c) ∗ bigSep Finset.univ fun p => slot0 m c (d p) p)
      ⊢ iprop(((xPts c (xst m c) ∗ bigSep Finset.univ fun p => slot0 m c (d p || decide (p ∈ l)) p) -∗ WP c (run c es) Q) -∗ WP c (run c (l.map .put ++ es)) Q) := by
  induction l generalizing d with
  | nil =>
    iintro H Hk
    iapply Hk
    simp only [List.not_mem_nil, decide_false, Bool.or_false]
    iexact H
  | cons p l ih =>
    rw [List.map_cons, List.cons_append]
    rw [run_cons]
    iintro ⟨Hx, HB⟩ Hk
    ihave HB' := (change_at (fun p' => slot0 m c (d p') p') (fun p' => slot0 m c (d p' || decide (p' = p)) p') p (fun j hj => by
      simp only [hj, decide_false, Bool.or_false])) $$ HB
    icases HB' with ⟨Hb, HB⟩
    ihave Hb := (slot0_any m c (d p) p) $$ Hb
    icases Hb with ⟨%f, Hb⟩
    iapply (wp_put m c p f) $$ [Hx Hb]
    · isplitl [Hx]; · iexact Hx
      iexact Hb
    iintro ⟨Hx, Hb⟩
    iapply (ih (fun p' => d p' || decide (p' = p))) $$ [Hx Hb HB]
    · isplitl [Hx]; · iexact Hx
      iapply HB
      have e : (slot0 m c (d p || decide (p = p)) p : sProp 𝕄) = bPts c (gS (p, 0)) fullShare (bC m c) := by
        rw [decide_eq_true rfl, Bool.or_true]; rfl
      iapply (Entails.of_eq e.symm); iexact Hb
    have e : (fun p' => slot0 m c ((d p' || decide (p' = p)) || decide (p' ∈ l)) p' : Fin 8 → sProp 𝕄) = fun p' => slot0 m c (d p' || decide (p' ∈ p :: l)) p' := by
      funext p'
      rw [Bool.or_assoc]
      congr 2
      simp only [List.mem_cons, Bool.decide_or]
    rw [e]
    iexact Hk

theorem wp_sig (a : Fin 3) (O O' : CellTallies nD τ sig Unit) (hO : O' = O + oweB c a) (W : Waits sig Unit) (k : P F) (Q : PUnit → sProp 𝕄) :
    iprop(records m K ∗ owes (c : Thread nD τ) O' W ∗ dutyTok ER (barCell (nbr c a)) 0 a ∗ bigSep Finset.univ fun p : Fin 8 => landing c (p, phOf p a))
      ⊢ iprop((owes (c : Thread nD τ) O W -∗ WP c k Q) -∗ WP c (step c k (.signal a)) Q) := by
  iintro ⟨#HR, HO, Ht, HL⟩ Hk
  unfold step
  dsimp only
  iapply (Rounds.wp_signal 𝒱₀ ER (Rd m) (c : Thread nD τ) none (dst := (nbr c a : Thread nD τ)) (κ := K (nbr c a, barI))
      (d := a) (by rw [duties_bar]; exact Finset.mem_univ _) ((amount_bar m (nbr c a) a).trans (by decide)) () O hO) $$ [HO Ht HL]
  · isplitr; · iapply (inv_at m K (nbr c a, barI)); iexact HR
    isplitl [HO]; · iexact HO
    isplitl [Ht]; · iexact Ht
    isplitl [HL]
    · rw [payload_bar]; unfold barPay; rw [nbr_nbr]; iexact HL
    iapply (reached_at m K (nbr c a, barI)); iexact HR
  iexact Hk

theorem wp_bar (W : Waits sig Unit) (k : P F) (Q : PUnit → sProp 𝕄) :
    iprop(records m K ∗ levAts L lv ∗ owes (c : Thread nD τ) (O₃ c) W ∗ cred (tallyAt (barCell c) () 3) ∗ atPos ER (barCell c) 0 ∅ 0)
      ⊢ iprop((((∃ W, owes (c : Thread nD τ) (O₃ c) W) ∗ atPos ER (barCell c) 1 ∅ 0 ∗ bigSep Finset.univ fun a : Fin 3 => barPay c a) -∗ WP c k Q) -∗ WP c (step c k .barWait) Q) := by
  iintro ⟨#HR, #HL, HO, Hc, Hat⟩ Hk
  unfold step
  dsimp only
  iapply (Rounds.wp_wait_rest_token 𝒱₀ ER (Rd m) (c : Thread nD τ) none (κ := K (c, barI))
      (wpE_semWait_eq 𝒱₀ (c : Thread nD τ) none Set.univ) (Set.mem_univ _) () (O := O₃ c) (W := W) (R := 0) (m := 0) (T := ∅)
      (by rw [expect_bar]; decide)) $$ [Hc HO Hat]
  · isplitr; · iapply (inv_at m K (c, barI)); iexact HR
    isplitl [Hc]; · iexact Hc
    isplitl [HO]; · iexact HO
    isplitr; · unfold O₃; iapply (mayWait_owed c (.reg barS) 1 (fun _ => false) (lv_bar c).le (fun x _ => by omega)); iexact HL
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-! ## What a device starts from -/

/-- The duties it pays: its own cells', its neighbours' barriers and receive cells. -/
def Toks : sProp 𝕄 :=
  iprop((bigSep Finset.univ fun x : PX => dutyTok ER (sendCell c x) 0 0)
    ∗ (bigSep Finset.univ fun x : PX => dutyTok ER (recvCell (nbr c (axisOf x.1 x.2)) x) 0 0)
    ∗ (bigSep Finset.univ fun a : Fin 3 => dutyTok ER (barCell (nbr c a)) 0 a)
    ∗ dutyTok ER (wCell c) 0 0
    ∗ bigSep Finset.univ fun i : Fin 64 => dutyTok ER (outCell c (st i.val)) (i.val / 4) 0)
/-- Its own cells' positions after `r` rounds, the stages' after `n`. -/
def Ats (r n : ℕ) : sProp 𝕄 :=
  iprop((bigSep Finset.univ fun x : PX => atPos ER (sendCell c x) r ∅ 0) ∗ (bigSep Finset.univ fun x : PX => atPos ER (recvCell c x) r ∅ 0)
    ∗ atPos ER (wCell c) r ∅ 0 ∗ bigSep Finset.univ fun s : Fin 4 => atPos ER (outCell c s) n ∅ 0)
/-- The credit its neighbours owe it. -/
def Creds : sProp 𝕄 :=
  iprop(cred (tallyAt (barCell c) () 3) ∗ bigSep Finset.univ fun x : PX => cred (tallyAt (recvCell c x) () (Ncr x.2)))
/-- The kernel's scratch, at any contents. -/
def Scr : sProp 𝕄 := iprop((∃ f, bPts c Finset.univ fullShare f) ∗ (∃ f, wfPts c f) ∗ (∃ f, wbPts c f) ∗ ∃ f, sPts c Finset.univ f)

theorem landings (f : BC F) : (bPts c Finset.univ fullShare f : sProp 𝕄)
    ⊢ iprop((bigSep Finset.univ fun p : Fin 8 => slot0 m c false p) ∗ bigSep Finset.univ fun a : Fin 3 => bigSep Finset.univ fun p : Fin 8 => landing c (p, phOf p a)) := by
  rw [bPts_groups, by_group, by_axis (fun _ x => landing c x)]
  iintro ⟨H0, H1⟩
  isplitl [H0]
  · iapply (bigSep_any Finset.univ (fun p f => bPts c (gS (p, 0)) fullShare f) f); iexact H0
  · iapply (bigSep_any Finset.univ (fun (x : PX) f => bPts c (gS (x.1, x.2.succ)) fullShare f) f); iexact H1

/-- The first quarters held: every row part's own slot. -/
theorem pieces_start : (bigSep Finset.univ fun p : Fin 8 => bPts c (gS (p, 0)) fullShare (bC m c))
    = (pieces m c (fun _ => false) (fun _ => false) (fun _ => false) : sProp 𝕄) := by
  unfold pieces
  rw [bigSep_univ_prod]
  refine bigSep_congr fun p _ => ?_
  rw [bigSep_univ_prod, bigSep_four, quarters]
  have hn : ∀ ph : Fin 3, (bigSep Finset.univ fun k : Fin 4 => if held (fun _ => false) (fun _ => false) (fun _ => false) (p, ph.succ, k) then piece m c (p, ph.succ, k) else iprop(emp) : sProp 𝕄) = iprop(emp) := fun ph => by
    refine (bigSep_congr fun k _ => if_neg fun h => ?_).trans (bigSep_emp_const (Finset.univ : Finset (Fin 4)))
    have := (held_true.1 h).1
    rw [gArr_succ] at this
    exact absurd this (by decide)
  have h0 : (bigSep Finset.univ fun k : Fin 4 => if held (fun _ => false) (fun _ => false) (fun _ => false) (p, 0, k) then piece m c (p, 0, k) else iprop(emp) : sProp 𝕄)
      = bigSep Finset.univ fun k : Fin 4 => bPts c (gS (p, 0)) (sh k) (bC m c) := by
    refine bigSep_congr fun k _ => if_pos (held_true.2 ⟨rfl, lent_false.2 ?_⟩)
    rintro ⟨ph, -, -, h, -⟩
    exact absurd h (by decide)
  rw [h0, show (1 : Fin 4) = (0 : Fin 3).succ from rfl, show (2 : Fin 4) = (1 : Fin 3).succ from rfl, show (3 : Fin 4) = (2 : Fin 3).succ from rfl, hn, hn, hn]
  have e : ∀ A : sProp 𝕄, A = iprop(A ∗ emp ∗ emp ∗ emp) := fun A => by
    have h1 : A ⊢ iprop(A ∗ emp ∗ emp ∗ emp) := by
      iintro H
      isplitl [H]; · iexact H
      isplitr; · iempintro
      isplitr; · iempintro
      iempintro
    have h2 : iprop(A ∗ emp ∗ emp ∗ emp) ⊢ A := by iintro ⟨H, -⟩; iexact H
    exact equiv_iff.mp ⟨h1, h2⟩
  exact e _

theorem sendRes_start : (bigSep Finset.univ (sendRes c (fun _ => false) (fun _ => false)) : sProp 𝕄)
    = iprop((bigSep Finset.univ fun x : PX => dutyTok ER (sendCell c x) 0 0) ∗ (bigSep Finset.univ fun x : PX => dutyTok ER (recvCell (nbr c (axisOf x.1 x.2)) x) 0 0)
      ∗ (bigSep Finset.univ fun x : PX => landing (nbr c (axisOf x.1 x.2)) x) ∗ bigSep Finset.univ fun x : PX => atPos ER (sendCell c x) 0 ∅ 0) := by
  rw [← bigSep_sep', ← bigSep_sep', ← bigSep_sep']
  refine bigSep_congr fun x _ => ?_
  rw [sendRes_unsent c rfl rfl, sep_assoc_eq, sep_assoc_eq]
  congr 3
  exact equiv_iff.mp emp_sep
theorem recvRes_start : (bigSep Finset.univ (recvRes c (fun _ => false)) : sProp 𝕄)
    = iprop((bigSep Finset.univ fun x : PX => cred (tallyAt (recvCell c x) () (Ncr x.2))) ∗ bigSep Finset.univ fun x : PX => atPos ER (recvCell c x) 0 ∅ 0) := by
  rw [← bigSep_sep']
  exact bigSep_congr fun x _ => recvRes_due c rfl
theorem stRes_start : (bigSep Finset.univ (stRes c 0 0) : sProp 𝕄)
    = iprop((bigSep Finset.univ fun s : Fin 4 => atPos ER (outCell c s) 0 ∅ 0) ∗ (bigSep Finset.univ fun s : Fin 4 => reached ER (outCell c s) 0)
      ∗ bigSep Finset.univ fun s : Fin 4 => iprop(∃ f, sPts c (sS s) f)) := by
  rw [← bigSep_sep', ← bigSep_sep']
  exact bigSep_congr fun s _ => stRes_free c (by unfold turns; have := s.isLt; omega) (by unfold turns; have := s.isLt; omega)
theorem emRes_start : (bigSep Finset.univ (emRes m c 0 0) : sProp 𝕄)
    = iprop((bigSep Finset.univ fun i : Fin 64 => dutyTok ER (outCell c (st i.val)) (i.val / 4) 0) ∗ bigSep Finset.univ fun i : Fin 64 => iprop(∃ f, oPts c (oS c (em i.val)) f)) := by
  rw [← bigSep_sep']
  exact bigSep_congr fun i _ => emRes_todo m c (Nat.zero_le _)

theorem run_evs (d : Dev nD) : (run d evs : P F)
    = step d (run d ((List.finRange 8).map .put ++ (.signal 0 :: .signal 1 :: .signal 2 :: .barWait :: evMain))) .wCopy := by
  rw [evs_split]
  unfold evPre
  rw [List.append_assoc, List.append_assoc, List.singleton_append, run_cons]
  simp only [List.cons_append, List.nil_append]

/-- The body up to the barrier leaves the start of the machine. -/
theorem head_ok (Q : PUnit → sProp 𝕄) :
    iprop(records m K ∗ levAts L lv ∗ (∃ W, owes (c : Thread nD τ) (O₀ c) W) ∗ Toks c ∗ atPos ER (barCell c) 0 ∅ 0 ∗ Ats c 0 0 ∗ Creds c ∗ Scr c
        ∗ wPts c (wIn m c) ∗ (∃ f, oPts c Finset.univ f) ∗ xPts c (xst m c))
      ⊢ iprop(((xPts c (xst m c) ∗ atPos ER (barCell c) 1 ∅ 0 ∗ State m c K σ₀) -∗ WP c (run c evMain) Q) -∗ WP c (run c evs) Q) := by
  rw [run_evs]
  unfold Toks Ats Creds Scr
  rw [bigSep_three (fun a : Fin 3 => dutyTok ER (barCell (nbr c a)) 0 a)]
  iintro ⟨#HR, #HL, ⟨%W, HO⟩, ⟨Hts, Htr, ⟨Ht0, Ht1, Ht2⟩, Htw, Hto⟩, Hab, ⟨Has, Har, Haw, Hao⟩, ⟨Hcb, Hcr⟩, ⟨⟨%fb, Hb⟩, ⟨%fw, Hwf⟩, Hwb, ⟨%fs, Hs⟩⟩, Hw, ⟨%fo, Ho⟩, Hx⟩ Hk
  iapply (wp_wCopy m c K fw) $$ [Hw Hwf Htw]
  · isplitr; · iexact HR
    isplitl [Hw]; · iexact Hw
    isplitl [Hwf]; · iexact Hwf
    iexact Htw
  iintro Hcw
  ihave Hb' := (landings m c fb) $$ Hb
  icases Hb' with ⟨Hb, Hl⟩
  ihave Hl := (Entails.of_eq (bigSep_three _)) $$ Hl
  icases Hl with ⟨Hl0, Hl1, Hl2⟩
  iapply (put_run m c (List.finRange 8) (fun _ => false)) $$ [Hx Hb]
  · isplitl [Hx]; · iexact Hx
    iexact Hb
  iintro ⟨Hx, Hb⟩
  have eb : (bigSep Finset.univ fun p => slot0 m c (false || decide (p ∈ List.finRange 8)) p : sProp 𝕄) = pieces m c (fun _ => false) (fun _ => false) (fun _ => false) := by
    rw [← pieces_start]
    refine bigSep_congr fun p _ => ?_
    rw [decide_eq_true (List.mem_finRange p)]; rfl
  ihave Hb := (Entails.of_eq eb) $$ Hb
  rw [run_cons, run_cons, run_cons, run_cons]
  iapply (wp_sig m c K 0 (O₁ c) (O₀ c) rfl W) $$ [HO Ht0 Hl0]
  · isplitr; · iexact HR
    isplitl [HO]; · iexact HO
    isplitl [Ht0]; · iexact Ht0
    iexact Hl0
  iintro HO
  iapply (wp_sig m c K 1 (O₂ c) (O₁ c) rfl W) $$ [HO Ht1 Hl1]
  · isplitr; · iexact HR
    isplitl [HO]; · iexact HO
    isplitl [Ht1]; · iexact Ht1
    iexact Hl1
  iintro HO
  iapply (wp_sig m c K 2 (O₃ c) (O₂ c) rfl W) $$ [HO Ht2 Hl2]
  · isplitr; · iexact HR
    isplitl [HO]; · iexact HO
    isplitl [Ht2]; · iexact Ht2
    iexact Hl2
  iintro HO
  iapply (wp_bar m c K W) $$ [HO Hcb Hab]
  · isplitr; · iexact HR
    isplitr; · iexact HL
    isplitl [HO]; · iexact HO
    isplitl [Hcb]; · iexact Hcb
    iexact Hab
  iintro ⟨HO, Hab, Hl⟩
  have el : (bigSep Finset.univ fun a : Fin 3 => barPay c a : sProp 𝕄) = bigSep Finset.univ fun x : PX => landing (nbr c (axisOf x.1 x.2)) x :=
    by_axis (fun a x => landing (nbr c a) x)
  ihave Hl := (Entails.of_eq el) $$ Hl
  iapply Hk
  isplitl [Hx]; · iexact Hx
  isplitl [Hab]; · iexact Hab
  unfold State Core σ₀ wtRes
  dsimp only
  rw [sendRes_start, recvRes_start, stRes_start, emRes_start]
  isplitr; · iexact HR
  isplitr; · iexact HL
  isplitl [HO]; · iexact HO
  isplitl [Hts Htr Hl Has]
  · isplitl [Hts]; · iexact Hts
    isplitl [Htr]; · iexact Htr
    isplitl [Hl]; · iexact Hl
    iexact Has
  isplitl [Hcr Har]
  · isplitl [Hcr]; · iexact Hcr
    iexact Har
  isplitl [Hb]; · iexact Hb
  isplitl [Hcw Haw Hwb]
  · isplitl [Hcw]; · iexact Hcw
    isplitl [Haw]; · iexact Haw
    iexact Hwb
  isplitl [Hao Hs]
  · isplitl [Hao]; · iexact Hao
    isplitr
    · rw [bigSep_four]
      isplitr; · iapply (reached_at m K (c, outI 0)); iexact HR
      isplitr; · iapply (reached_at m K (c, outI 1)); iexact HR
      isplitr; · iapply (reached_at m K (c, outI 2)); iexact HR
      iapply (reached_at m K (c, outI 3)); iexact HR
    iapply (bigSep_any Finset.univ (fun s f => sPts c (sS s) f) fs)
    iapply (Entails.of_eq (sPts_stages c fs)); iexact Hs
  isplitl [Hto]; · iexact Hto
  iapply (bigSep_any Finset.univ (fun (i : Fin 64) f => oPts c (oS c (em i.val)) f) fo)
  iapply (Entails.of_eq (oPts_ems c fo)); iexact Ho

end Cert.KProof
end
-- ==== Proof.Tail.lean ====
/-
# The body, whole

The end of the machine gives every buffer back, with the result at its intended contents; the cells close at zero. With
the events before the barrier and the run of the machine this is the body of the kernel on one device.
-/
module

public import proofs.«01_k».proof.Proof.Head

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD) (K : Dev nD × CI → ℕ)

/-! ## The end of the machine -/

theorem pieces_end : (pieces m c (fun _ => true) (fun _ => true) (fun _ => true) : sProp 𝕄) = bPts c Finset.univ fullShare (bC m c) := by
  unfold pieces
  rw [bPts_groups, bigSep_univ_prod, bigSep_univ_prod]
  refine bigSep_congr fun p _ => ?_
  rw [bigSep_univ_prod]
  refine bigSep_congr fun g _ => ?_
  rw [quarters]
  refine bigSep_congr fun k _ => if_pos (held_true.2 ⟨?_, lent_false.2 ?_⟩)
  · show gArr (fun _ => true) p g = true
    rcases Fin.eq_zero_or_eq_succ g with rfl | ⟨ph, rfl⟩
    · rfl
    · rw [gArr_succ]
  · rintro ⟨ph, -, -, -, h⟩
    exact absurd h (by decide)

theorem drop_emp (A : sProp 𝕄) : iprop(emp ∗ A) ⊢ A := by iintro ⟨-, H⟩; iexact H
theorem drop_emp2 (A : sProp 𝕄) : iprop(emp ∗ emp ∗ A) ⊢ A := by iintro ⟨-, -, H⟩; iexact H
theorem sendRes_end : (bigSep Finset.univ (sendRes c (fun _ => true) (fun _ => true)) : sProp 𝕄) ⊢ bigSep Finset.univ fun x : PX => atPos ER (sendCell c x) 1 ∅ 0 :=
  bigSep_mono fun x _ => by
    rw [sendRes_done c rfl rfl]
    exact drop_emp2 _
theorem recvRes_end : (bigSep Finset.univ (recvRes c (fun _ => true)) : sProp 𝕄) ⊢ bigSep Finset.univ fun x : PX => atPos ER (recvCell c x) 1 ∅ 0 :=
  bigSep_mono fun x _ => by
    rw [recvRes_come c rfl]
    exact drop_emp _
theorem emRes_end : (bigSep Finset.univ (emRes m c 64 64) : sProp 𝕄) = oPts c Finset.univ (oC m c) := by
  rw [oPts_ems]
  exact bigSep_congr fun i _ => emRes_out m c i.isLt i.isLt
theorem stages_join : (bigSep Finset.univ fun s : Fin 4 => iprop(∃ f, sPts c (sS s) f) : sProp 𝕄) ⊢ iprop(∃ f, sPts c Finset.univ f) := by
  iintro H
  ihave H' := (BI.bigSep_exists_pi Finset.univ (fun (s : Fin 4) (f : (cc0_scratch3 : Ref sig .tc).ty.Contents (Elt F)) => (sPts c (sS s) f : sProp 𝕄))) $$ H
  icases H' with ⟨%fs, H⟩
  unfold sPts
  ihave H' := (pointsTo_biUnion_join Finset.univ sS fs (fs 0) (fun x _ y _ h => sS_disj x y h)) $$ H
  rw [sS_cover]
  icases H' with ⟨%g, -, H⟩
  iexists g; iexact H
theorem stRes_end : (bigSep Finset.univ (stRes c 64 64) : sProp 𝕄)
    ⊢ iprop((bigSep Finset.univ fun s : Fin 4 => atPos ER (outCell c s) 16 ∅ 0) ∗ ∃ f, sPts c Finset.univ f) := by
  have e : (bigSep Finset.univ (stRes c 64 64) : sProp 𝕄) = iprop((bigSep Finset.univ fun s : Fin 4 => atPos ER (outCell c s) 16 ∅ 0)
      ∗ (bigSep Finset.univ fun s : Fin 4 => reached ER (outCell c s) 16) ∗ bigSep Finset.univ fun s : Fin 4 => iprop(∃ f, sPts c (sS s) f)) := by
    rw [← bigSep_sep', ← bigSep_sep']
    exact bigSep_congr fun s _ => stRes_free c (by unfold turns; have := s.isLt; omega) (by unfold turns; have := s.isLt; omega)
  rw [e]
  iintro ⟨H, -, Hs⟩
  isplitl [H]; · iexact H
  iapply (stages_join c); iexact Hs

theorem exit_ok (σ : St) (h : final σ = true) :
    State m c K σ ⊢ iprop((∃ W, owes (c : Thread nD τ) 0 W) ∗ Ats c 1 16 ∗ Scr c ∗ wPts c (wIn m c) ∗ oPts c Finset.univ (oC m c)) := by
  obtain ⟨h1, h2, h3, h4, h5, h6⟩ := of_decide_eq_true h
  have e1 : σ.sent = fun _ => true := funext h1
  have e2 : σ.arr = fun _ => true := funext h2
  have e3 : σ.done = fun _ => true := funext h3
  unfold State Core
  rw [e1, e2, e3, h4, h5, h6, pieces_end, emRes_end, owed_all c (fun _ => true) (fun _ => rfl)]
  unfold wtRes wcPay Ats Scr
  dsimp only
  iintro ⟨-, -, HO, HS, HV, HP, ⟨Haw, ⟨Hwf, Hw⟩, Hwb⟩, HT, HE⟩
  ihave HT := (stRes_end c) $$ HT
  icases HT with ⟨Hao, Hs⟩
  isplitl [HO]; · iexact HO
  isplitl [HS HV Haw Hao]
  · isplitl [HS]; · iapply (sendRes_end c); iexact HS
    isplitl [HV]; · iapply (recvRes_end c); iexact HV
    isplitl [Haw]; · iexact Haw
    iexact Hao
  isplitl [HP Hwf Hwb Hs]
  · isplitl [HP]; · iexists _; iexact HP
    isplitl [Hwf]; · iexists _; iexact Hwf
    isplitl [Hwb]; · iexists _; iexact Hwb
    iexact Hs
  isplitl [Hw]; · iexact Hw
  iexact HE

/-! ## The cells close -/

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_one (k : CI) (R : ℕ) (hR : ∀ r, R ≤ r → (Rd m).duties (kcell (c, k)) r = ∅) :
    iprop(records m K ∗ atPos ER (kcell (c, k)) R ∅ 0) ⊢ |={Set.univ}=> (semVal (kcell (c, k)) 0 : sProp 𝕄) := by
  iintro ⟨#HR, H⟩
  iapply (Rounds.cell_close ER (Rd m) (Set.mem_univ (K (c, k))) (fun h => h) (R := R) hR)
  isplitr; · iapply (inv_at m K (c, k)); iexact HR
  iexact H

theorem close_all {I : Type} [DecidableEq I] [Fintype I] (k : I → CI) (R : ℕ) (hR : ∀ i r, R ≤ r → (Rd m).duties (kcell (c, k i)) r = ∅) :
    iprop(records m K ∗ bigSep Finset.univ fun i => atPos ER (kcell (c, k i)) R ∅ 0) ⊢ |={Set.univ}=> (bigSep Finset.univ fun i => semVal (kcell (c, k i)) 0 : sProp 𝕄) :=
  (with_records fun i _ => close_one m c K (k i) R (hR i)).trans (bigSep_fupd _ _)

theorem ownSems0_eq : (Pipeline.ownSems0 (Ix := Unit) (Name := ℕ) (U := UU) (Lvl := ℕ) (Val := Elt F) (τ := τ) osem c : sProp 𝕄)
    = iprop((bigSep Finset.univ fun x : PX => semVal (sendCell c x) 0) ∗ (bigSep Finset.univ fun x : PX => semVal (recvCell c x) 0)
        ∗ semVal (wCell c) 0 ∗ bigSep Finset.univ fun s : Fin 4 => semVal (outCell c s) 0) := by
  unfold Pipeline.ownSems0
  rw [bigSep_univ_sum, bigSep_univ_sum, bigSep_univ_sum, show (Finset.univ : Finset Unit) = {()} from rfl, bigSep_singleton]
  rfl

theorem close_ok : iprop(records m K ∗ atPos ER (barCell c) 1 ∅ 0 ∗ Ats c 1 16)
    ⊢ |={Set.univ}=> iprop(semVal (barCell c) 0 ∗ Pipeline.ownSems0 (Ix := Unit) (Name := ℕ) (U := UU) (Lvl := ℕ) (Val := Elt F) (τ := τ) osem c) := by
  rw [ownSems0_eq]
  unfold Ats
  iintro ⟨#HR, Hb, Hs, Hr, Hw, Ho⟩
  imod (close_one m c K barI 1 (later_bar m c)) $$ [Hb] with Hb
  · isplitr; · iexact HR
    iexact Hb
  imod (close_all m c K sendI 1 (later_send m c)) $$ [Hs] with Hs
  · isplitr; · iexact HR
    iexact Hs
  imod (close_all m c K recvI 1 (later_recv m c)) $$ [Hr] with Hr
  · isplitr; · iexact HR
    iexact Hr
  imod (close_one m c K wI 1 (later_w m c)) $$ [Hw] with Hw
  · isplitr; · iexact HR
    iexact Hw
  imod (close_all m c K outI 16 (later_out m c)) $$ [Ho] with Ho
  · isplitr; · iexact HR
    iexact Ho
  imodintro
  isplitl [Hb]; · iexact Hb
  isplitl [Hs]; · iexact Hs
  isplitl [Hr]; · iexact Hr
  isplitl [Hw]; · iexact Hw
  iexact Ho

/-! ## The region's proof data -/

/-- The ghost state a device starts from. -/
def ghost : sProp 𝕄 := iprop(records m K ∗ Toks c ∗ atPos ER (barCell c) 0 ∅ 0 ∗ Ats c 0 0)
/-- The same at some names, the credit its neighbours owe it, the levels, its weights and its result's memory. -/
def start : sProp 𝕄 :=
  iprop((∃ K, ghost m c K) ∗ Creds c ∗ levAts L lv ∗ wPts c (wIn m c) ∗ ∃ f, oPts c Finset.univ f)

def Φ₀ : sProp 𝕄 := iprop(start m c ∗ Scr c)
/-- After the body: the scratch at any contents, the weights as they were, the result at its intended contents, every cell at zero. -/
def Φ₁ : sProp 𝕄 :=
  iprop(Scr c ∗ wPts c (wIn m c) ∗ oPts c Finset.univ (oC m c) ∗ semVal (barCell c) 0
    ∗ Pipeline.ownSems0 (Ix := Unit) (Name := ℕ) (U := UU) (Lvl := ℕ) (Val := Elt F) (τ := τ) osem c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staged rows of `x`, at contents `X`. -/
abbrev stg (X : XC F) : sProp 𝕄 := iprop(∃ f : XC F, ⌜f = X⌝ ∗ (((c : Thread nD τ).loc cc0_stg0_0) ↦{fullShare} f))

def bodyPre : sProp 𝕄 := iprop(Φ₀ m c ∗ (dats m ρ 0 c).owesAt () t0_0.castSucc ∗ ∃ d, stg c ((dats m ρ 0 c).before (0 : Fin 1) t0_0 d))
def bodyPost : sProp 𝕄 := iprop(Φ₁ m c ∗ (dats m ρ 0 c).owesAt () t0_0.succ ∗ stg c (xst m c))

/-- The body on one device. -/
theorem sound_body : bodyPre m ρ c ⊢ WP c body (fun _ => bodyPost m ρ c) := by
  rw [body_eq]
  unfold WP
  simp only [wp_deviceId]
  unfold bodyPre Φ₀ start ghost Dat.owesAt Pipeline.owesWithin
  rw [show (dats m ρ 0 c).owed t0_0.castSucc = O₀ c from rfl]
  iintro ⟨⟨⟨⟨%K, #HR, Ht, Hab, Hat⟩, Hcr, #HL, Hw, Ho⟩, Hscr⟩, ⟨%W, -, HO⟩, ⟨%d, %g, %hg, Hx⟩⟩
  have hx : g = xst m c := by rw [hg]; unfold Dat.before; rw [if_pos (fetch_0 t0_0)]; rfl
  subst hx
  obtain ⟨σ, hσ, hf⟩ := Option.map_eq_some_iff.mp go_main
  iapply (head_ok m c K (fun _ => bodyPost m ρ c)) $$ [Ht Hab Hat Hcr Hw Ho Hscr HO Hx]
  · isplitr; · iexact HR
    isplitr; · iexact HL
    isplitl [HO]; · iexists W; iexact HO
    isplitl [Ht]; · iexact Ht
    isplitl [Hab]; · iexact Hab
    isplitl [Hat]; · iexact Hat
    isplitl [Hcr]; · iexact Hcr
    isplitl [Hscr]; · iexact Hscr
    isplitl [Hw]; · iexact Hw
    isplitl [Ho]; · iexact Ho
    unfold xPts; iexact Hx
  iintro ⟨Hx, Hab, HS⟩
  iapply (moves m c K evMain σ₀ σ hσ (fun _ => bodyPost m ρ c)) $$ HS
  iintro HS
  ihave HS := (exit_ok m c K σ hf) $$ HS
  icases HS with ⟨⟨%W', HO⟩, Hat, Hscr, Hw, Ho⟩
  imod (close_ok m c K) $$ [Hab Hat] with ⟨Hb, Hz⟩
  · isplitr; · iexact HR
    isplitl [Hab]; · iexact Hab
    iexact Hat
  imodintro
  unfold bodyPost Φ₁ Dat.owesAt Pipeline.owesWithin
  rw [show (dats m ρ 0 c).owed t0_0.succ = 0 from rfl]
  isplitl [Hscr Hw Ho Hb Hz]
  · isplitl [Hscr]; · iexact Hscr
    isplitl [Hw]; · iexact Hw
    isplitl [Ho]; · iexact Ho
    isplitl [Hb]; · iexact Hb
    iexact Hz
  isplitl [HO]
  · iexists W'
    isplitr; · ipureintro; exact fun _ _ => Or.inl trivial
    iexact HO
  iexists _; isplitr; · (ipureintro; rfl)
  unfold xPts; iexact Hx

/-- The region's body at its one point is `body`. -/
theorem defs_body : defs₀ (F := F) Proc.tc 0 (t0_0, cfg0.slots t0_0) = body := by
  unfold defs₀ Defs.onTc
  dsimp only

set_option maxRecDepth 1000000 in
/-- The library's body obligation on device `c`. -/
theorem body_obligation : BodyObligation (dats (F := F) m ρ 0 c) (defs₀ (F := F)) 𝒱₀ () Set.univ := fun t => by
  rw [fin_N0 t]
  rw [bigSep_W0, bigSep_W0]
  simp only [owns_whole_eq]
  have h := sound_body m ρ c
  unfold WP at h
  rw [← defs_body] at h
  unfold bodyPre bodyPost stg at h
  have h1 : (dats m ρ 0 c).Φ t0_0.castSucc = Φ₀ m c := rfl
  have h2 : (dats m ρ 0 c).Φ t0_0.succ = Φ₁ m c := rfl
  have h3 : (dats m ρ 0 c).after 0 t0_0 = xst m c := rfl
  rw [h1, h2]

  exact h

end Cert.KProof
end
-- ==== Proof.Launch.lean ====
/-
# The launch

The launch makes every cell an invariant, deals every device the tokens of the duties it pays and the credit its neighbours
owe it, and runs the kernel. Every run ends with the results at their intended contents, the arguments and counters as at launch.
-/
module

public import proofs.«01_k».proof.Proof.Tail

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's elements -/

theorem ownSemFacts : Pipeline.OwnSemFacts cfg0.spec osem := by decide +kernel

theorem window_share (c : Dev nD) (w : Fin cfg0.W) : (dats m ρ 0 c).share w = fullShare := by unfold Dat.share; split <;> rfl

theorem csem_inj : ∀ a b : CI, csem a = csem b → a = b := by decide +kernel
theorem kcell_injective : Function.Injective (kcell : Dev nD × CI → GSem nD τ sig) := by
  rintro ⟨c, k⟩ ⟨c', k'⟩ h
  have h1 : c = c' := congrArg (fun g : GSem nD τ sig => g.1.1) h
  have h2 : csem k = csem k' := congrArg Prod.snd h
  rw [h1, csem_inj _ _ h2]
def exCells : Finset (GSem nD τ sig) := Finset.univ.map ⟨kcell, kcell_injective⟩

/-- The duties of a device's cells: the barrier's three, a send's, an arrival's, the weights', the emissions'. -/
abbrev TI : Type := Fin 3 ⊕ PX ⊕ PX ⊕ Unit ⊕ Fin 64
/-- The cell, the round and the name of a duty. -/
abbrev tokI : TI → CI × ℕ × Fin 3
  | .inl a => (barI, 0, a)
  | .inr (.inl x) => (sendI x, 0, 0)
  | .inr (.inr (.inl x)) => (recvI x, 0, 0)
  | .inr (.inr (.inr (.inl _))) => (wI, 0, 0)
  | .inr (.inr (.inr (.inr i))) => (outI (st i.val), i.val / 4, 0)
set_option synthInstance.maxSize 4096 in
set_option synthInstance.maxHeartbeats 400000 in
theorem tokI_inj : ∀ a b : TI, tokI a = tokI b → a = b := by decide +kernel
abbrev tokOf (ct : Dev nD × TI) : GSem nD τ sig × ℕ × Fin 3 := (kcell (ct.1, (tokI ct.2).1), (tokI ct.2).2.1, (tokI ct.2).2.2)
theorem tokOf_injective : Function.Injective tokOf := by
  rintro ⟨c, t⟩ ⟨c', t'⟩ h
  have h1 := kcell_injective (congrArg Prod.fst h)
  have hc : c = c' := congrArg Prod.fst h1
  have hk : (tokI t).1 = (tokI t').1 := congrArg Prod.snd h1
  have hr : (tokI t).2 = (tokI t').2 := Prod.ext (congrArg (fun y => y.2.1) h) (congrArg (fun y => y.2.2) h)
  rw [hc, tokI_inj t t' (Prod.ext hk hr)]
def exToks : Finset (GSem nD τ sig × ℕ × Fin 3) := Finset.univ.map ⟨tokOf, tokOf_injective⟩

def u₀ : UU := (initOf (Pipeline.cells cfgs cellOf_inj) (Pipeline.launchToks cfgs cellOf_inj), initOf exCells exToks)

/-- The tokens of the duties of device `c`'s own cells. -/
def toks (c : Dev nD) : sProp 𝕄 :=
  iprop((bigSep Finset.univ fun a : Fin 3 => dutyTok ER (barCell c) 0 a) ∗ (bigSep Finset.univ fun x : PX => dutyTok ER (sendCell c x) 0 0)
    ∗ (bigSep Finset.univ fun x : PX => dutyTok ER (recvCell c x) 0 0) ∗ dutyTok ER (wCell c) 0 0
    ∗ bigSep Finset.univ fun i : Fin 64 => dutyTok ER (outCell c (st i.val)) (i.val / 4) 0)

def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)
def G' (c : Dev nD) : sProp 𝕄 := iprop(∃ K, ghost m c K)

theorem by_cell (Φ : GSem nD τ sig → sProp 𝕄) : bigSep exCells Φ = bigSep Finset.univ fun c : Dev nD => bigSep Finset.univ fun k : CI => Φ (kcell (c, k)) := by
  unfold exCells; rw [bigSep_map, bigSep_univ_prod]; rfl
theorem by_tok : bigSep exToks (fun x => (dutyTok ER x.1 x.2.1 x.2.2 : sProp 𝕄)) = bigSep Finset.univ fun c : Dev nD => toks c := by
  unfold exToks; rw [bigSep_map, bigSep_univ_prod]
  refine bigSep_congr fun c _ => ?_
  unfold toks
  rw [bigSep_univ_sum, bigSep_univ_sum, bigSep_univ_sum, bigSep_univ_sum, show (Finset.univ : Finset Unit) = {()} from rfl, bigSep_singleton]
  rfl

theorem fund_ex : BI.own (ER (initOf exCells exToks)) ⊢ (|==> bigSep Finset.univ (G m) : sProp 𝕄) := by
  iintro HX
  imod (Rounds.fund ER (Rd m) exCells exToks) $$ HX with ⟨Hst, Hr, Hat, Htok⟩
  imodintro
  ihave Hst := (Entails.of_eq (by_cell fun g => roundState ER (Rd m) g 0)) $$ Hst
  ihave Hat := (Entails.of_eq (by_cell fun g => atPos ER g 0 ∅ 0)) $$ Hat
  ihave Hr := (Entails.of_eq (by_cell fun g => reached ER g 0)) $$ Hr
  ihave Htok := (Entails.of_eq by_tok) $$ Htok
  unfold G; simp only [bigSep_sep']
  isplitl [Hst]; · iexact Hst
  isplitl [Hat Hr]
  · isplitl [Hat] <;> iassumption
  iexact Htok

/-- The machine's barrier semaphore is the one the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_eq (c : Dev nD) (Φ : CI → sProp 𝕄) : bigSep Finset.univ Φ = iprop(Φ barI ∗ bigSep Finset.univ fun k : SI => Φ (.inr k)) := by
  rw [bigSep_univ_sum, show (Finset.univ : Finset Unit) = {()} from rfl, bigSep_singleton]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  rw [unscopedSems0_eq]
  iintro ⟨Hos, Hus, Hst, Hat, Htok⟩
  ihave Hv := (Entails.of_eq (sems_eq c fun k => semVal (kcell (c, k)) 0).symm) $$ [Hos Hus]
  · isplitl [Hus]; · iexact Hus
    unfold Pipeline.ownSems0; iexact Hos
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

/-- Crossing axis `a`. -/
def nbrE (a : Fin 3) : Dev nD ≃ Dev nD := ⟨fun c => nbr c a, fun c => nbr c a, fun c => nbr_nbr c a, fun c => nbr_nbr c a⟩

theorem cross {I : Type} [Fintype I] [DecidableEq I] (ax : I → Fin 3) (Φ : Dev nD → I → sProp 𝕄) :
    (bigSep Finset.univ fun c : Dev nD => bigSep Finset.univ fun i => Φ c i) = bigSep Finset.univ fun c : Dev nD => bigSep Finset.univ fun i => Φ (nbr c (ax i)) i := by
  rw [bigSep_univ_comm, bigSep_univ_comm (fun (c : Dev nD) i => Φ (nbr c (ax i)) i)]
  exact bigSep_congr fun i _ => bigSep_univ_equiv (nbrE (ax i)) (fun c => Φ c i)

theorem toks_around : (bigSep Finset.univ fun c : Dev nD => (toks c : sProp 𝕄)) ⊢ bigSep Finset.univ fun c : Dev nD => Toks c := by
  unfold toks Toks
  rw [bigSep_sep', bigSep_sep', bigSep_sep', bigSep_sep', bigSep_sep', bigSep_sep', bigSep_sep', bigSep_sep',
    cross id (fun c a => (dutyTok ER (barCell c) 0 a : sProp 𝕄)), cross (fun x : PX => axisOf x.1 x.2) (fun c x => (dutyTok ER (recvCell c x) 0 0 : sProp 𝕄))]
  iintro ⟨H1, H2, H3, H4, H5⟩
  isplitl [H2]; · iexact H2
  isplitl [H3]; · iexact H3
  isplitl [H1]; · iexact H1
  isplitl [H4]; · iexact H4
  iexact H5

theorem ats_eq (c : Dev nD) : (bigSep Finset.univ fun k : CI => (atPos ER (kcell (c, k)) 0 ∅ 0 : sProp 𝕄)) = iprop(atPos ER (barCell c) 0 ∅ 0 ∗ Ats c 0 0) := by
  rw [sems_eq c]
  unfold Ats
  rw [bigSep_univ_sum, bigSep_univ_sum, bigSep_univ_sum, show (Finset.univ : Finset Unit) = {()} from rfl, bigSep_singleton]
  rfl

theorem ghost_intro (K : Dev nD × CI → ℕ) (c : Dev nD) : iprop(records m K ∗ (bigSep Finset.univ fun k : CI => atPos ER (kcell (c, k)) 0 ∅ 0) ∗ Toks c) ⊢ G' m c := by
  rw [ats_eq]
  unfold G' ghost
  iintro ⟨#HR, ⟨Hb, Ha⟩, Ht⟩
  iexists K
  isplitr; · iexact HR
  isplitl [Ht]; · iexact Ht
  isplitl [Hb]; · iexact Hb
  iexact Ha

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_records (R := records m K) fun c _ => ghost_intro m K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) Toks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_iff {a b : Dev nD} : barCell a = barCell b ↔ a = b :=
  ⟨fun h => congrArg (fun g : GSem nD τ sig => g.1.1) h, fun h => h ▸ rfl⟩
theorem recv_iff {a b : Dev nD} {x y : PX} : recvCell a x = recvCell b y ↔ a = b ∧ x = y :=
  ⟨fun h => by
    have h' : (a, recvI x) = (b, recvI y) := kcell_injective h
    exact ⟨congrArg Prod.fst h', by have := congrArg Prod.snd h'; injection this with h; injection h with h; injection h with h⟩, fun h => by rw [h.1, h.2]⟩
theorem recv_ne_bar {a b : Dev nD} {x : PX} : recvCell a x ≠ barCell b := fun h => by
  have := congrArg Prod.snd h; injection this

theorem owed_at_bar (d c : Dev nD) : owed d (fun _ => false) (barCell c) () = 0 := by
  unfold owed
  rw [Finset.sum_apply, Finsupp.finset_sum_apply]
  refine Finset.sum_eq_zero fun x _ => ?_
  rw [if_neg Bool.false_ne_true]; unfold owe1
  rw [tallyAt_apply, if_neg fun h => recv_ne_bar h.1.symm]
theorem owed_at_recv (d c : Dev nD) (x : PX) : owed d (fun _ => false) (recvCell c x) () = if d = nbr c (axisOf x.1 x.2) then Ncr x.2 else 0 := by
  unfold owed
  rw [Finset.sum_apply, Finsupp.finset_sum_apply, Finset.sum_eq_single x]
  · rw [if_neg Bool.false_ne_true]; unfold owe1
    rw [tallyAt_apply]
    by_cases h : d = nbr c (axisOf x.1 x.2)
    · rw [if_pos h, h, nbr_nbr, if_pos ⟨rfl, rfl⟩]
    · rw [if_neg h, if_neg fun h' => h (by rw [(recv_iff.1 h'.1).1, nbr_nbr])]
  · intro y _ hy
    rw [if_neg Bool.false_ne_true]; unfold owe1
    rw [tallyAt_apply, if_neg fun h => hy (recv_iff.1 h.1).2.symm]
  · exact fun h => absurd (Finset.mem_univ _) h

theorem O₀_bar (d c : Dev nD) : O₀ d (barCell c) () = (if c = nbr d 2 then 1 else 0) + (if c = nbr d 1 then 1 else 0) + (if c = nbr d 0 then 1 else 0) := by
  have h : ∀ a, oweB d a (barCell c) () = if c = nbr d a then 1 else 0 := fun a => by
    unfold oweB; rw [tallyAt_apply]
    exact if_congr ⟨fun h => bar_iff.1 h.1, fun h => ⟨bar_iff.2 h, rfl⟩⟩ rfl rfl
  unfold O₀ O₁ O₂ O₃
  rw [Pi.add_apply, Finsupp.add_apply, Pi.add_apply, Finsupp.add_apply, Pi.add_apply, Finsupp.add_apply, owed_at_bar, h, h, h, Nat.zero_add]
theorem O₀_recv (d c : Dev nD) (x : PX) : O₀ d (recvCell c x) () = if d = nbr c (axisOf x.1 x.2) then Ncr x.2 else 0 := by
  have h : ∀ a, oweB d a (recvCell c x) () = 0 := fun a => by
    unfold oweB; rw [tallyAt_apply, if_neg fun h => recv_ne_bar h.1]
  unfold O₀ O₁ O₂ O₃
  rw [Pi.add_apply, Finsupp.add_apply, Pi.add_apply, Finsupp.add_apply, Pi.add_apply, Finsupp.add_apply, owed_at_recv, h, h, h, Nat.add_zero]

theorem three_neighbours (c : Dev nD) : (∑ d : Dev nD, ((if c = nbr d 2 then 1 else 0) + (if c = nbr d 1 then 1 else 0) + (if c = nbr d 0 then 1 else 0))) = 3 := by
  revert c; decide

theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, three_neighbours]
theorem launch_recv (c : Dev nD) (x : PX) :
    tallyOn (recvCell c x) (launchCredit (Pipeline.owing O₀) 0 (recvCell c x)) = (tallyAt (recvCell c x) () (Ncr x.2) : CellTallies nD τ sig Unit) := by
  unfold tallyAt; refine congrArg _ (Finsupp.ext fun u => ?_); cases u
  rw [Pipeline.launchCredit_owing, Finsupp.single_eq_same, Finset.sum_congr rfl fun d _ => O₀_recv d c x, Finset.sum_ite_eq' Finset.univ (nbr c (axisOf x.1 x.2)) fun _ => Ncr x.2,
    if_pos (Finset.mem_univ _)]

def recvE : PX ↪ SemLoc sig := ⟨fun x => .dma (recvS x.1 x.2), fun x y h => by
  have := csem_inj (recvI x) (recvI y) h; injection this with h; injection h with h; injection h with h⟩

theorem creds (c : Dev nD) : (Pipeline.launchCred O₀ c : sProp 𝕄) ⊢ Creds c := by
  unfold Pipeline.launchCred Creds
  have hsub : Finset.univ.map recvE ⊆ Finset.univ.erase (SemLoc.reg barS) := fun sm h => by
    obtain ⟨x, -, rfl⟩ := Finset.mem_map.1 h
    exact Finset.mem_erase.mpr ⟨fun h => by injection h, Finset.mem_univ _⟩
  have e : (bigSep Finset.univ fun x : PX => (cred (tallyAt (recvCell c x) () (Ncr x.2)) : sProp 𝕄))
      = bigSep Finset.univ fun x : PX => cred (tallyOn (recvCell c x) (launchCredit (Pipeline.owing O₀) 0 (recvCell c x))) :=
    bigSep_congr fun x _ => by rw [launch_recv]
  rw [bigSep_univ_at _ (SemLoc.reg barS), launch_bar, e]
  have h := bigSep_subset hsub (Φ := fun sm => (cred (tallyOn ((c : Thread nD τ), sm) (launchCredit (Pipeline.owing O₀) 0 ((c : Thread nD τ), sm))) : sProp 𝕄))
  rw [bigSep_map] at h
  exact sep_mono_right h

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' wPts oPts wIn
  iintro ⟨⟨Hw, Ho⟩, Hlev, Hcr, -, HG⟩
  ihave Hc := (creds (F := F) c) $$ Hcr
  imodintro
  isplitl
  · isplitl [HG]; · iexact HG
    isplitl [Hc]; · iexact Hc
    isplitl [Hlev]; · iexact Hlev
    isplitl [Hw]; · iexact Hw
    iexists _; iexact Ho
  · iempintro

theorem scr_eq (c : Dev nD) : (Pipeline.scopedRest cfg0.spec c : sProp 𝕄) = Scr c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

/-- What the exit passes on: the weights as they were, the result, and the barrier's counter. -/
def leave (c : Dev nD) : sProp 𝕄 := iprop(wPts c (wIn m c) ∗ oPts c Finset.univ (oC m c) ∗ semVal (barCell c) 0)

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, scr_eq]
  unfold Φ₁ leave
  iintro ⟨Hr, Hw, Ho, Hb, Hz⟩
  isplitl [Hw Ho Hb]
  · isplitl [Hw]; · iexact Hw
    isplitl [Ho]; · iexact Ho
    iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What device `c`'s memory holds after the run: the result at its intended contents, the arguments as at launch. -/
def QD (c : Dev nD) (s : MemSt nD τ sig (Elt F)) : Prop :=
  s.mem ((c : Thread nD τ).loc main_v1) = oC m c ∧ s.mem ((c : Thread nD τ).loc main_arg0) = m ((c : Thread nD τ).loc main_arg0)
    ∧ s.mem ((c : Thread nD τ).loc main_arg1) = m ((c : Thread nD τ).loc main_arg1)

theorem unscoped_bar : ∀ sm : SemLoc sig, sm.isScoped .tc = false → sm = .reg barS := by decide

set_option maxRecDepth 1000000 in
/-- From any memory with zero counters, for any float values: every weakly fair execution of the eight kernels ends, with
    every device's result at its intended contents, its arguments unchanged and every counter at zero. -/
theorem run_main : θ_run defs (onTc (τ := τ) (main (F := F))) (s₀ m ρ) (fun r => (∀ c, QD m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := window_share m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi0_intro m ρ) (hout := phi1_exit m ρ)
    (QY := fun c s => (s.mem ((c : Thread nD τ).loc main_v1) = oC m c ∧ s.mem ((c : Thread nD τ).loc main_arg1) = m ((c : Thread nD τ).loc main_arg1))
      ∧ s.sem (barCell c) = 0)
    (hY := fun c s' => by
      unfold leave wPts oPts wIn
      iintro ⟨⟨Hw, Ho, Hb⟩, -, HSI⟩
      icombine HSI Hw gives %hw
      icombine HSI Ho gives %ho
      icombine HSI Hb gives %hb
      imodintro
      isplitr
      · ipureintro
        exact ⟨⟨Buf.eq_of_forall_mem_univ ho, Buf.eq_of_forall_mem_univ hw⟩, hb⟩
      iexact HSI)
    (hQ := fun s h hs => ⟨fun c => ⟨(h c).2.2.1.1, ((h c).1 (0 : Fin 1)).trans ((dats (F := F) m ρ 0 c).arrAt_in (0 : Fin 1) rfl _), (h c).2.2.1.2⟩,
      sem_eq_zero hs fun c sm hsm => by rw [unscoped_bar sm hsm]; exact (h c).2.2.2⟩)

end Cert.KProof
end
-- ==== Proof.Value.lean ====
module

public import proofs.«01_k».proof.Proof.Launch
public import proofs.«01_k».proof.Proof.Gen.ReferenceIdeal.Run
public import Idealize.ShloMosaic.Lib.MatmulPlain
public import Idealize.ShloMosaic.Lib.Layout

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx

/-! ## The value

In exact arithmetic every element of the kernel's result is the sum, over the 4096 positions of a row of `x`, of the row's
element times the weights'. The reference's product is the same sum over the whole arrays, and each format change keeps its
operand. So device `c`'s result is block `c`, cut by columns, of the reference's. -/

/-- An emission's payload at an index. -/
theorem outPay_apply (v : Vec Ideal S1x1x64x4096 .bf16) (w : Vec Ideal S4096x1024 .bf16) (r : Fin 64) (l : Fin 1024) :
    outPay v w (ix3 (0 : Fin 1) r l) = ∑ k : Fin 4096, (v (ix4 (0 : Fin 1) (0 : Fin 1) r k) * w (ix2 k l) : EReal) := by
  unfold outPay k0_pay11
  refine (shapeCast_apply _ _ _ (ix2 r l) (by
    rw [Shape.rowMajor_val_three, Shape.rowMajor_val_two]
    show r.val * 1024 + l.val = (0 * 64 + r.val) * 1024 + l.val
    omega)).trans ?_
  refine (Ideal.matmul_plain_apply none _ _ _ r l).trans ?_
  refine (congrArg (· + _) Ideal.ofBits_zero_f32).trans ((zero_add _).trans ?_)
  refine Finset.sum_congr rfl fun k _ => congrArg (· * _) ?_
  exact shapeCast_apply _ _ _ (ix4 (0 : Fin 1) (0 : Fin 1) r k) (by
    rw [Shape.rowMajor_val_four, Shape.rowMajor_val_two]
    show ((0 * 1 + 0) * 64 + r.val) * 4096 + k.val = r.val * 4096 + k.val
    omega)

/-- The weights' cast keeps them. -/
theorem wPay_eq (w : Vec Ideal S4096x1024 .f32) : wPay w = w := by
  funext i
  unfold wPay k0_pay10
  exact congrArg w (Shape.reshapeEquiv_self (s := S4096x1024) shapeCasts_S4096x1024_S4096x1024 i)

/-- The rows staged are the argument. -/
theorem xst_eq (c : Dev nD) : xst m c = m ((c : Thread nD τ).loc main_arg0) := by
  funext i
  refine congrArg (m ((c : Thread nD τ).loc main_arg0)) (funext fun a => Fin.ext ?_)
  exact Window.rect_emb_val_of_index_zero win0_0 t0_0 a rfl i

/-- Device `c`'s arguments as arrays. -/
abbrev argX (c : Dev nD) : Vec Ideal S512x4096 .bf16 := m ((c : Thread nD τ).loc main_arg0)
abbrev argW (c : Dev nD) : Vec Ideal S4096x1024 .f32 := m ((c : Thread nD τ).loc main_arg1)

/-- An element of the kernel's result. -/
theorem oC_apply (c : Dev nD) (i : S4096x1024.Idx) :
    oC m c i = ∑ k : Fin 4096, (argX m ⟨(i 0).val / 512, by have h : (i 0).val < 4096 := (i 0).isLt; show _ < 8; omega⟩ (ix2 (⟨(i 0).val % 512, by omega⟩ : Fin 512) k)
      * argW m c (ix2 k (i 1 : Fin 1024)) : EReal) := by
  refine (outPay_apply _ _ _ _).trans (Finset.sum_congr rfl fun k _ => ?_)
  unfold wbC
  rw [wPay_eq]
  refine congrArg (· * _) ?_
  unfold slotBlk
  rw [xst_eq]
  refine congrArg (m _) (congrArg (fun r : Fin 512 => ix2 r k) (Fin.ext ?_))
  show 64 * ((i 0).val % 512 / 64) + (i 0).val % 64 = (i 0).val % 512
  omega

/-- An element of the reference's product. -/
theorem dot_apply (x : FVec Ideal Cert.ReferenceIdeal.S4096x4096 .bf16) (w : FVec Ideal Cert.ReferenceIdeal.S4096x8192 .bf16) (r : Fin 4096) (l : Fin 8192) :
    Host.dotGeneral Cert.ReferenceIdeal.dot_S4096x4096_S4096x8192_S4096x8192_1_0_0_1_n_n none x w (ix2 r l) = ∑ k : Fin 4096, (x (ix2 r k) * w (ix2 k l) : EReal) := by
  simp only [Host.dotGeneral]
  refine (Ideal.dotGeneral_apply _ none _ x w (ix2 r l)).trans ?_
  refine (Ideal.matmul_constant_zero_apply (DotDims.plain 4096 4096 8192) none x w (ix2 r l)).symm.trans ?_
  refine (Ideal.matmul_plain_apply none _ _ _ r l).trans ?_
  exact (congrArg (· + _) Ideal.ofBits_zero_f32).trans (zero_add _)

/-- The reference's result, from its arguments. -/
abbrev refOut (x : FVec Ideal Cert.ReferenceIdeal.S4096x4096 .bf16) (w : FVec Ideal Cert.ReferenceIdeal.S4096x8192 .f32) : FVec Ideal Cert.ReferenceIdeal.S4096x8192 .f32 :=
  extf .f32 (truncf .bf16 (Host.dotGeneral Cert.ReferenceIdeal.dot_S4096x4096_S4096x8192_S4096x8192_1_0_0_1_n_n none x
    (truncf .bf16 w Cert.ReferenceIdeal.Gen.bitsLt_bf16_f32)) Cert.ReferenceIdeal.Gen.bitsLt_bf16_f32) Cert.ReferenceIdeal.Gen.bitsLt_bf16_f32

theorem refOut_apply (x : FVec Ideal Cert.ReferenceIdeal.S4096x4096 .bf16) (w : FVec Ideal Cert.ReferenceIdeal.S4096x8192 .f32) (r : Fin 4096) (l : Fin 8192) :
    refOut x w (ix2 r l) = ∑ k : Fin 4096, (x (ix2 r k) * w (ix2 k l) : EReal) := dot_apply x _ r l

/-- Where each device's arguments are its blocks of the whole arrays, device `c`'s result is block `c` of the reference's. -/
theorem value (x : FVec Ideal Cert.ReferenceIdeal.S4096x4096 .bf16) (w : FVec Ideal Cert.ReferenceIdeal.S4096x8192 .f32)
    (h : ∀ c : Dev nD, m ((c : Thread nD τ).loc main_arg0) = Layout.block ⟨2, ![512, 4096]⟩ ⟨2, ![4096, 4096]⟩ 0 8 c x
      ∧ m ((c : Thread nD τ).loc main_arg1) = Layout.block ⟨2, ![4096, 1024]⟩ ⟨2, ![4096, 8192]⟩ 1 8 c w) (c : Dev nD) :
    oC m c = Layout.block ⟨2, ![4096, 1024]⟩ ⟨2, ![4096, 8192]⟩ 1 8 c (refOut x w) := by
  funext i
  have h0 : (i 0).val < 4096 := (i 0).isLt
  have h1 : (i 1).val < 1024 := (i 1).isLt
  have hc : c.val < 8 := c.isLt
  rw [oC_apply, Layout.block_apply]
  have e : ∀ ht : Layout.Tiles ⟨2, ![4096, 1024]⟩ ⟨2, ![4096, 8192]⟩ 1 8, ht.idx c i = ix2 (i 0 : Fin 4096) (⟨c.val * 1024 + (i 1).val, by omega⟩ : Fin 8192) := fun ht => by
    funext a; apply Fin.ext
    match a with
    | ⟨0, _⟩ => exact (Layout.idx_cols_val ht c i).1
    | ⟨1, _⟩ => exact (Layout.idx_cols_val ht c i).2
  rw [e]
  refine Eq.trans ?_ (refOut_apply x w _ _).symm
  have hx : ∀ d, argX m d = Layout.block ⟨2, ![512, 4096]⟩ ⟨2, ![4096, 4096]⟩ 0 8 d x := fun d => (h d).1
  have hw : argW m c = Layout.block ⟨2, ![4096, 1024]⟩ ⟨2, ![4096, 8192]⟩ 1 8 c w := (h c).2
  show @Eq EReal _ _
  refine Finset.sum_congr rfl fun k _ => ?_
  rw [hx, hw, Layout.block_apply, Layout.block_apply]
  refine congrArg₂ (· * ·) (congrArg x ?_) (congrArg w ?_)
  · funext a; apply Fin.ext
    match a with
    | ⟨0, _⟩ =>
      show (i 0).val / 512 * 512 + (i 0).val % 512 = (i 0).val
      omega
    | ⟨1, _⟩ => rfl
  · funext a; apply Fin.ext
    match a with
    | ⟨0, _⟩ => rfl
    | ⟨1, _⟩ => rfl

end Cert.KProof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

variable {F : FTy → Type} [FloatOps F]

set_option maxRecDepth 1000000 in
/-- The two printings of the kernel have one body. -/
theorem same_bodies : Cert.Kernel.defs₀ (F := F) = Cert.KernelIdeal.defs₀ (F := F) := by
  refine congrArg Defs.onTc (funext fun ℓ => funext fun a => ?_)
  match ℓ, a with
  | 0, (t, s) => rfl
  | ⟨n + 1, h⟩, _ => exact absurd h (by omega)

set_option maxRecDepth 1000000 in
/-- So they have one table of bodies. -/
theorem same_defs : Cert.Kernel.defs (F := F) = Cert.KernelIdeal.defs (F := F) := congrArg (Pipeline.defs _) same_bodies

set_option maxRecDepth 1000000 in
/-- The kernel on bit patterns: it ends, its arguments are kept and every counter is zero. -/
theorem frame_kernel : Cert.quiescent_Kernel := fun m ρ _ => by
  rw [same_defs]
  exact (θ_run Cert.KernelIdeal.defs _ _).mono (fun _ h => And.intro (fun c => (h.1 c).2) h.2) (Cert.KProof.run_main (F := Bits) m ρ)

/-- The same of the kernel in exact arithmetic. -/
theorem frame_kernelIdeal : Cert.quiescent_KernelIdeal := fun m ρ _ =>
  (θ_run Cert.KernelIdeal.defs _ _).mono (fun _ h => ⟨fun c => (h.1 c).2, h.2⟩) (Cert.KProof.run_main (F := Ideal) m ρ)

/-- The same of the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic, each device's result is its block of the reference's. -/
theorem algebraic : Cert.algebraic_KernelIdeal_ReferenceIdeal := fun m ρ m' ρ' _ hag =>
  ⟨Cert.KProof.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (Cert.KProof.value m _ _ hag c), (h.1 c).2⟩) (Cert.KProof.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
